-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tiled_cells [hPre_tiled_cells : Cert.Pre_tiled_cells.Facts] (m : (ℓ : Loc Cert.KernelIdeal.nD Cert.KernelIdeal.τ Cert.KernelIdeal.sig) → Buf (Elt Ideal) ℓ) : Prop :=
  ∀ c : Dev Cert.KernelIdeal.nD,
    (Cert.Pre_tiled_cells.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tiled_cells [hPre_tiled_cells : Cert.Pre_tiled_cells.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tiled_cells.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_tiled_cells [hKernelIdeal : Cert.KernelIdeal.Facts] [hPre_tiled_cells : Cert.Pre_tiled_cells.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tiled_cells m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_tiled_cells [hReferenceIdeal : Cert.ReferenceIdeal.Facts] [hPre_tiled_cells : Cert.Pre_tiled_cells.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tiled_cells m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_tiled_cells [hKernelIdeal : Cert.KernelIdeal.Facts] [hReferenceIdeal : Cert.ReferenceIdeal.Facts] [hPre_tiled_cells : Cert.Pre_tiled_cells.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tiled_cells m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_tiled_cells : Cert.Pre_tiled_cells.Facts),
    quiescent_Kernel (hKernel := hKernel)
    ∧ quiescent_KernelIdeal (hKernelIdeal := hKernelIdeal)
    ∧ quiescent_KernelIdeal_pre_tiled_cells (hKernelIdeal := hKernelIdeal) (hPre_tiled_cells := hPre_tiled_cells)
    ∧ quiescent_ReferenceIdeal (hReferenceIdeal := hReferenceIdeal)
    ∧ quiescent_ReferenceIdeal_pre_tiled_cells (hReferenceIdeal := hReferenceIdeal) (hPre_tiled_cells := hPre_tiled_cells)
    ∧ preserves_Kernel_KernelIdeal
    ∧ algebraic_KernelIdeal_ReferenceIdeal_pre_tiled_cells (hKernelIdeal := hKernelIdeal) (hReferenceIdeal := hReferenceIdeal) (hPre_tiled_cells := hPre_tiled_cells)
-- ==== Pre_tiled_cells.lean ====
abbrev S32x768 : Shape := ⟨2, ![32, 768]⟩
abbrev S768x1024 : Shape := ⟨2, ![768, 1024]⟩
abbrev S1024x64 : Shape := ⟨2, ![1024, 64]⟩
abbrev S64x256 : Shape := ⟨2, ![64, 256]⟩
abbrev S256x64 : Shape := ⟨2, ![256, 64]⟩
abbrev S64 : Shape := ⟨1, ![64]⟩
abbrev S32768 : Shape := ⟨1, ![32768]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel

variable [Facts]

def fn_where {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S32768 32) (arg1 : IVec S_ 32) : IVec S32768 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where (F := F) v1 c_0 v0
  let v3 : IVec S32768 32 := broadcastInDim S32768 ![] bcast_S_S32768 v2
  let v4 : IVec S32768 32 := Host.remsi arg0 v3
  let c_1 : IVec S_ 32 := constantI S_ 32 0#32
  let v5 : IVec S32768 32 := broadcastInDim S32768 ![] bcast_S_S32768 c_1
  let v6 : IVec S32768 1 := cmpi .ne v4 v5
  let c_2 : IVec S_ 32 := constantI S_ 32 0#32
  let v7 : IVec S32768 32 := broadcastInDim S32768 ![] bcast_S_S32768 c_2
  let v8 : IVec S32768 1 := cmpi .slt v4 v7
  let c_3 : IVec S_ 32 := constantI S_ 32 0#32
  let v9 : IVec S_ 1 := cmpi .slt v2 c_3
  let v10 : IVec S32768 1 := broadcastInDim S32768 ![] bcast_S_S32768 v9
  let v11 : IVec S32768 1 := cmpi .ne v8 v10
  let v12 : IVec S32768 1 := andi v11 v6
  let v13 : IVec S32768 32 := broadcastInDim S32768 ![] bcast_S_S32768 v2
  let v14 : IVec S32768 32 := addi v4 v13
  let v15 : IVec S32768 32 := select v12 v14 v4
  v15

def fn {F : FTy → Type} [FloatOps F] (main_arg0 : FVec F S32x768 .f32) (main_arg1 : FVec F S768x1024 .f32) (main_arg2 : FVec F S1024x64 .f32) (main_arg3 : FVec F S64x256 .f32) (main_arg4 : FVec F S256x64 .f32) (main_arg5 : FVec F S64 .f32) (main_arg6 : IVec S32768 32) : IVec S_ 1 :=
  let main_v0 : IVec S32768 32 := iotaInDim S32768 32 0
  let main_c : IVec S_ 32 := constantI S_ 32 1024#32
  let main_v1 : IVec S32768 32 := fn_remainder (F := F) main_v0 main_c
  let main_v2 : IVec S32768 1 := cmpi .eq main_arg6 main_v1
  let main_c_0 : IVec S_ 1 := constantI S_ 1 1#1
  let main_v3 : IVec S_ 1 := (fun x v => Host.reduce IntOp.andi x v reducesTo_S32768_S_d0 h_S_) main_v2 main_c_0
  main_v3
-- ==== Kernel.lean ====
abbrev S32x768 : Shape := ⟨2, ![32, 768]⟩
abbrev S768x1024 : Shape := ⟨2, ![768, 1024]⟩
abbrev S1024x64 : Shape := ⟨2, ![1024, 64]⟩
abbrev S64x256 : Shape := ⟨2, ![64, 256]⟩
abbrev S256x64 : Shape := ⟨2, ![256, 64]⟩
abbrev S64 : Shape := ⟨1, ![64]⟩
abbrev S32768 : Shape := ⟨1, ![32768]⟩
abbrev S64x1024 : Shape := ⟨2, ![64, 1024]⟩
abbrev S1x64 : Shape := ⟨2, ![1, 64]⟩
abbrev S32x1024 : Shape := ⟨2, ![32, 1024]⟩
abbrev S64x32768 : Shape := ⟨2, ![64, 32768]⟩
abbrev S1x1024 : Shape := ⟨2, ![1, 1024]⟩
abbrev S64x16384 : Shape := ⟨2, ![64, 16384]⟩
abbrev S256x16384 : Shape := ⟨2, ![256, 16384]⟩

abbrev nBuf : Space → Nat
  | .hbm => 12
  | .vmem => 8
  | .smem => 0
  | _ => 0

abbrev bufTy : (tb : Table) → Fin (tcTables nBuf tb) → BufTy
  | .hbm, ⟨0, _⟩ => ⟨S32x768, .f32⟩
  | .hbm, ⟨1, _⟩ => ⟨S768x1024, .f32⟩
  | .hbm, ⟨2, _⟩ => ⟨S1024x64, .f32⟩
  | .hbm, ⟨3, _⟩ => ⟨S64x256, .f32⟩
  | .hbm, ⟨4, _⟩ => ⟨S256x64, .f32⟩
  | .hbm, ⟨5, _⟩ => ⟨S64, .f32⟩
  | .hbm, ⟨6, _⟩ => ⟨S32768, .i32⟩
  | .hbm, ⟨7, _⟩ => ⟨S64x1024, .f32⟩
  | .hbm, ⟨8, _⟩ => ⟨S256x64, .f32⟩
  | .hbm, ⟨9, _⟩ => ⟨S64x256, .f32⟩
  | .hbm, ⟨10, _⟩ => ⟨S1x64, .f32⟩
  | .hbm, ⟨11, _⟩ => ⟨S32x1024, .f32⟩
  | .local _ .vmem, ⟨0, _⟩ => ⟨S32x768, .f32⟩
  | .local _ .vmem, ⟨1, _⟩ => ⟨S768x1024, .f32⟩
  | .local _ .vmem, ⟨2, _⟩ => ⟨S64x1024, .f32⟩
  | .local _ .vmem, ⟨3, _⟩ => ⟨S256x64, .f32⟩
  | .local _ .vmem, ⟨4, _⟩ => ⟨S64x256, .f32⟩
  | .local _ .vmem, ⟨5, _⟩ => ⟨S1x64, .f32⟩
  | .local _ .vmem, ⟨6, _⟩ => ⟨S32x1024, .f32⟩
  | .local _ .vmem, ⟨7, _⟩ => ⟨S64x32768, .f32⟩
  | _, _ => ⟨S32x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c16_i32 : BitVec 32 := 16#32
  let v203 : BitVec 32 := Scalar.addi c0_i32 c16_i32
  let c1_i32 : BitVec 32 := 1#32
  ⟨c0_i32, v203, c1_i32⟩
abbrev stage0_0 : Fin 1 → Memref sig .tc .vmem S32x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== ReferenceIdeal.lean ====
abbrev S32x768 : Shape := ⟨2, ![32, 768]⟩
abbrev S768x1024 : Shape := ⟨2, ![768, 1024]⟩
abbrev S1024x64 : Shape := ⟨2, ![1024, 64]⟩
abbrev S64x256 : Shape := ⟨2, ![64, 256]⟩
abbrev S256x64 : Shape := ⟨2, ![256, 64]⟩
abbrev S64 : Shape := ⟨1, ![64]⟩
abbrev S32768 : Shape := ⟨1, ![32768]⟩
abbrev S32x1024 : Shape := ⟨2, ![32, 1024]⟩
abbrev S32768x1 : Shape := ⟨2, ![32768, 1]⟩
abbrev S_ : Shape := ⟨0, ![]⟩
abbrev S1 : Shape := ⟨1, ![1]⟩
abbrev S1x1 : Shape := ⟨2, ![1, 1]⟩
abbrev S32768x64 : Shape := ⟨2, ![32768, 64]⟩
abbrev S16384x64 : Shape := ⟨2, ![16384, 64]⟩
abbrev S32768x256 : Shape := ⟨2, ![32768, 256]⟩

abbrev nBuf : Space → Nat
  | .hbm => 115
  | .vmem => 0
  | .smem => 0
  | _ => 0

abbrev bufTy : (tb : Table) → Fin (tcTables nBuf tb) → BufTy
  | .hbm, ⟨0, _⟩ => ⟨S32x768, .f32⟩
  | .hbm, ⟨1, _⟩ => ⟨S768x1024, .f32⟩
  | .hbm, ⟨2, _⟩ => ⟨S1024x64, .f32⟩
  | .hbm, ⟨3, _⟩ => ⟨S64x256, .f32⟩
  | .hbm, ⟨4, _⟩ => ⟨S256x64, .f32⟩
  | .hbm, ⟨5, _⟩ => ⟨S64, .f32⟩
  | .hbm, ⟨6, _⟩ => ⟨S32768, .i32⟩
  | .hbm, ⟨7, _⟩ => ⟨S32x1024, .f32⟩
  | .hbm, ⟨8, _⟩ => ⟨S32x1024, .f32⟩
  | .hbm, ⟨9, _⟩ => ⟨S32768x1, .f32⟩
  | .hbm, ⟨10, _⟩ => ⟨S_, .i32⟩
  | .hbm, ⟨11, _⟩ => ⟨S32768, .i32⟩
  | .hbm, ⟨12, _⟩ => ⟨S32768, .i1⟩
  | .hbm, ⟨13, _⟩ => ⟨S_, .i32⟩
  | .hbm, ⟨14, _⟩ => ⟨S32768, .i32⟩
  | .hbm, ⟨15, _⟩ => ⟨S32768, .i32⟩
  | .hbm, ⟨16, _⟩ => ⟨S32768, .i32⟩
  | .hbm, ⟨17, _⟩ => ⟨S32768x1, .i32⟩
  | .hbm, ⟨18, _⟩ => ⟨S1, .i32⟩
  | .hbm, ⟨19, _⟩ => ⟨S_, .i32⟩
  | .hbm, ⟨20, _⟩ => ⟨S32768x1, .i32⟩
  | .hbm, ⟨21, _⟩ => ⟨S32768x1, .i1⟩
  | .hbm, ⟨22, _⟩ => ⟨S1x1, .i32⟩
  | .hbm, ⟨23, _⟩ => ⟨S32768x1, .i32⟩
  | .hbm, ⟨24, _⟩ => ⟨S32768x1, .i1⟩
  | .hbm, ⟨25, _⟩ => ⟨S32768x1, .i1⟩
  | .hbm, ⟨26, _⟩ => ⟨S_, .i1⟩
  | .hbm, ⟨27, _⟩ => ⟨S32768, .i1⟩
  | .hbm, ⟨28, _⟩ => ⟨S32768x64, .f32⟩
  | .hbm, ⟨29, _⟩ => ⟨S32768x64, .i1⟩
  | .hbm, ⟨30, _⟩ => ⟨S_, .f32⟩
  | .hbm, ⟨31, _⟩ => ⟨S32768x64, .f32⟩
  | .hbm, ⟨32, _⟩ => ⟨S32768x64, .f32⟩
  | .hbm, ⟨33, _⟩ => ⟨S32768x64, .f32⟩
  | .hbm, ⟨34, _⟩ => ⟨S32768x64, .f32⟩
  | .hbm, ⟨35, _⟩ => ⟨S_, .f32⟩
  | .hbm, ⟨36, _⟩ => ⟨S16384x64, .f32⟩
  | .hbm, ⟨37, _⟩ => ⟨S_, .i32⟩
  | .hbm, ⟨38, _⟩ => ⟨S_, .i32⟩
  | .hbm, ⟨39, _⟩ => ⟨S64x256, .f32⟩
  | .hbm, ⟨40, _⟩ => ⟨S256x64, .f32⟩
  | .hbm, ⟨41, _⟩ => ⟨S32768, .i32⟩
  | .hbm, ⟨42, _⟩ => ⟨S_, .i32⟩
  | .hbm, ⟨43, _⟩ => ⟨S_, .i32⟩
  | .hbm, ⟨44, _⟩ => ⟨S32768x64, .f32⟩
  | .hbm, ⟨45, _⟩ => ⟨S16384x64, .f32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S32768x256, .f32⟩
  | .hbm, ⟨51, _⟩ => ⟨S32768x256, .f32⟩
  | .hbm, ⟨52, _⟩ => ⟨S32768x256, .f32⟩
  | .hbm, ⟨53, _⟩ => ⟨S_, .f32⟩
  | .hbm, ⟨54, _⟩ => ⟨S32768x256, .f32⟩
  | .hbm, ⟨55, _⟩ => ⟨S32768x256, .f32⟩
  | .hbm, ⟨56, _⟩ => ⟨S32768x256, .f32⟩
  | .hbm, ⟨57, _⟩ => ⟨S_, .f32⟩
  | .hbm, ⟨58, _⟩ => ⟨S32768x256, .f32⟩
  | .hbm, ⟨59, _⟩ => ⟨S32768x256, .f32⟩
  | .hbm, ⟨60, _⟩ => ⟨S32768x256, .f32⟩
  | .hbm, ⟨61, _⟩ => ⟨S_, .f32⟩
  | .hbm, ⟨62, _⟩ => ⟨S32768x256, .f32⟩
  | .hbm, ⟨63, _⟩ => ⟨S32768x256, .f32⟩
  | .hbm, ⟨64, _⟩ => ⟨S_, .f32⟩
  | .hbm, ⟨65, _⟩ => ⟨S32768x256, .f32⟩
  | .hbm, ⟨66, _⟩ => ⟨S32768x256, .f32⟩
  | .hbm, ⟨67, _⟩ => ⟨S32768x256, .f32⟩
  | .hbm, ⟨68, _⟩ => ⟨S32768x64, .f32⟩
  | .hbm, ⟨69, _⟩ => ⟨S32768x64, .f32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S32768, .i32⟩
  | .hbm, ⟨74, _⟩ => ⟨S32768, .i32⟩
  | .hbm, ⟨75, _⟩ => ⟨S_, .i32⟩
  | .hbm, ⟨76, _⟩ => ⟨S32768, .i32⟩
  | .hbm, ⟨77, _⟩ => ⟨S32768, .i1⟩
  | .hbm, ⟨78, _⟩ => ⟨S_, .i32⟩
  | .hbm, ⟨79, _⟩ => ⟨S32768, .i32⟩
  | .hbm, ⟨80, _⟩ => ⟨S32768, .i32⟩
  | .hbm, ⟨81, _⟩ => ⟨S32768, .i32⟩
  | .hbm, ⟨82, _⟩ => ⟨S32768x1, .i32⟩
  | .hbm, ⟨83, _⟩ => ⟨S16384x64, .f32⟩
  | .hbm, ⟨84, _⟩ => ⟨S_, .i32⟩
  | .hbm, ⟨85, _⟩ => ⟨S32768, .i32⟩
  | .hbm, ⟨86, _⟩ => ⟨S32768, .i1⟩
  | .hbm, ⟨87, _⟩ => ⟨S_, .i32⟩
  | .hbm, ⟨88, _⟩ => ⟨S32768, .i32⟩
  | .hbm, ⟨89, _⟩ => ⟨S32768, .i32⟩
  | .hbm, ⟨90, _⟩ => ⟨S32768, .i32⟩
  | .hbm, ⟨91, _⟩ => ⟨S32768x1, .i32⟩
  | .hbm, ⟨92, _⟩ => ⟨S1, .i32⟩
  | .hbm, ⟨93, _⟩ => ⟨S_, .i32⟩
  | .hbm, ⟨94, _⟩ => ⟨S32768x1, .i32⟩
  | .hbm, ⟨95, _⟩ => ⟨S32768x1, .i1⟩
  | .hbm, ⟨96, _⟩ => ⟨S1x1, .i32⟩
  | .hbm, ⟨97, _⟩ => ⟨S32768x1, .i32⟩
  | .hbm, ⟨98, _⟩ => ⟨S32768x1, .i1⟩
  | .hbm, ⟨99, _⟩ => ⟨S32768x1, .i1⟩
  | .hbm, ⟨100, _⟩ => ⟨S_, .i1⟩
  | .hbm, ⟨101, _⟩ => ⟨S32768, .i1⟩
  | .hbm, ⟨102, _⟩ => ⟨S32768x64, .f32⟩
  | .hbm, ⟨103, _⟩ => ⟨S32768x64, .i1⟩
  | .hbm, ⟨104, _⟩ => ⟨S_, .f32⟩
  | .hbm, ⟨105, _⟩ => ⟨S32768x64, .f32⟩
  | .hbm, ⟨106, _⟩ => ⟨S32768x64, .f32⟩
  | .hbm, ⟨107, _⟩ => ⟨S_, .f32⟩
  | .hbm, ⟨108, _⟩ => ⟨S32768x64, .f32⟩
  | .hbm, ⟨109, _⟩ => ⟨S32768x64, .f32⟩
  | .hbm, ⟨110, _⟩ => ⟨S32768x64, .f32⟩
  | .hbm, ⟨111, _⟩ => ⟨S_, .i32⟩
  | .hbm, ⟨112, _⟩ => ⟨S_, .i32⟩
  | .hbm, ⟨113, _⟩ => ⟨S32768, .f32⟩
  | .hbm, ⟨114, _⟩ => ⟨S32x1024, .f32⟩
  | _, _ => ⟨S32x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_v3 : Ref sig .tc := ⟨.hbm, 11, rfl⟩
abbrev main_v4 : Ref sig .tc := ⟨.hbm, 12, rfl⟩
abbrev main_c_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_c_1 : Ref sig .tc := ⟨.hbm, 18, rfl⟩
abbrev main_c_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_c_5 : Ref sig .tc := ⟨.hbm, 37, rfl⟩
abbrev main_c_6 : Ref sig .tc := ⟨.hbm, 38, rfl⟩
abbrev main_v23_0 : Ref sig .tc := ⟨.hbm, 39, rfl⟩
abbrev main_v23_1 : Ref sig .tc := ⟨.hbm, 40, rfl⟩
abbrev main_v23_2 : Ref sig .tc := ⟨.hbm, 41, rfl⟩
abbrev main_v23_3 : Ref sig .tc := ⟨.hbm, 42, rfl⟩
abbrev main_v23_4 : Ref sig .tc := ⟨.hbm, 43, rfl⟩
abbrev main_v23_5 : Ref sig .tc := ⟨.hbm, 44, rfl⟩
abbrev main_v23_6 : Ref sig .tc := ⟨.hbm, 45, rfl⟩
abbrev main_while0c_c_13 : Ref sig .tc := ⟨.hbm, 46, rfl⟩
abbrev main_while0c_v26 : Ref sig .tc := ⟨.hbm, 47, rfl⟩
abbrev main_while0b_c_13 : Ref sig .tc := ⟨.hbm, 48, rfl⟩
abbrev main_while0b_v26 : Ref sig .tc := ⟨.hbm, 49, rfl⟩
abbrev main_while0b_v27 : Ref sig .tc := ⟨.hbm, 50, rfl⟩
abbrev main_while0b_v28 : Ref sig .tc := ⟨.hbm, 51, rfl⟩
abbrev main_while0b_v29 : Ref sig .tc := ⟨.hbm, 52, rfl⟩
abbrev main_while0b_cst_14 : Ref sig .tc := ⟨.hbm, 53, rfl⟩
abbrev main_while0b_v30 : Ref sig .tc := ⟨.hbm, 54, rfl⟩
abbrev main_while0b_v31 : Ref sig .tc := ⟨.hbm, 55, rfl⟩
abbrev main_while0b_v32 : Ref sig .tc := ⟨.hbm, 56, rfl⟩
abbrev main_while0b_cst_15 : Ref sig .tc := ⟨.hbm, 57, rfl⟩
abbrev main_while0b_v33 : Ref sig .tc := ⟨.hbm, 58, rfl⟩
abbrev main_while0b_v34 : Ref sig .tc := ⟨.hbm, 59, rfl⟩
abbrev main_while0b_v35 : Ref sig .tc := ⟨.hbm, 60, rfl⟩
abbrev main_while0b_cst_16 : Ref sig .tc := ⟨.hbm, 61, rfl⟩
abbrev main_while0b_v36 : Ref sig .tc := ⟨.hbm, 62, rfl⟩
abbrev main_while0b_v37 : Ref sig .tc := ⟨.hbm, 63, rfl⟩
abbrev main_while0b_cst_17 : Ref sig .tc := ⟨.hbm, 64, rfl⟩
abbrev main_while0b_v38 : Ref sig .tc := ⟨.hbm, 65, rfl⟩
abbrev main_while0b_v39 : Ref sig .tc := ⟨.hbm, 66, rfl⟩
abbrev main_while0b_v40 : Ref sig .tc := ⟨.hbm, 67, rfl⟩
abbrev main_while0b_v41 : Ref sig .tc := ⟨.hbm, 68, rfl⟩
abbrev main_while0b_v42 : Ref sig .tc := ⟨.hbm, 69, rfl⟩
abbrev main_while0b_c_18 : Ref sig .tc := ⟨.hbm, 70, rfl⟩
abbrev main_while0b_v43 : Ref sig .tc := ⟨.hbm, 71, rfl⟩
abbrev main_while0b_v44 : Ref sig .tc := ⟨.hbm, 72, rfl⟩
abbrev main_while0b_v45 : Ref sig .tc := ⟨.hbm, 73, rfl⟩
abbrev main_while0b_v46 : Ref sig .tc := ⟨.hbm, 74, rfl⟩
abbrev main_while0b_c_19 : Ref sig .tc := ⟨.hbm, 75, rfl⟩
abbrev main_while0b_v47 : Ref sig .tc := ⟨.hbm, 76, rfl⟩
abbrev main_while0b_v48 : Ref sig .tc := ⟨.hbm, 77, rfl⟩
abbrev main_while0b_c_20 : Ref sig .tc := ⟨.hbm, 78, rfl⟩
abbrev main_while0b_v49 : Ref sig .tc := ⟨.hbm, 79, rfl⟩
abbrev main_while0b_v50 : Ref sig .tc := ⟨.hbm, 80, rfl⟩
abbrev main_while0b_v51 : Ref sig .tc := ⟨.hbm, 81, rfl⟩
abbrev main_while0b_v52 : Ref sig .tc := ⟨.hbm, 82, rfl⟩
abbrev main_while0b_v53 : Ref sig .tc := ⟨.hbm, 83, rfl⟩
abbrev main_while0b_c_21 : Ref sig .tc := ⟨.hbm, 84, rfl⟩
abbrev main_while0b_v54 : Ref sig .tc := ⟨.hbm, 85, rfl⟩
abbrev main_while0b_v55 : Ref sig .tc := ⟨.hbm, 86, rfl⟩
abbrev main_while0b_c_22 : Ref sig .tc := ⟨.hbm, 87, rfl⟩
abbrev main_while0b_v56 : Ref sig .tc := ⟨.hbm, 88, rfl⟩
abbrev main_while0b_v57 : Ref sig .tc := ⟨.hbm, 89, rfl⟩
abbrev main_while0b_v58 : Ref sig .tc := ⟨.hbm, 90, rfl⟩
abbrev main_while0b_v59 : Ref sig .tc := ⟨.hbm, 91, rfl⟩
abbrev main_while0b_c_23 : Ref sig .tc := ⟨.hbm, 92, rfl⟩
abbrev main_while0b_c_24 : Ref sig .tc := ⟨.hbm, 93, rfl⟩
abbrev main_while0b_v60 : Ref sig .tc := ⟨.hbm, 94, rfl⟩
abbrev main_while0b_v61 : Ref sig .tc := ⟨.hbm, 95, rfl⟩
abbrev main_while0b_v62 : Ref sig .tc := ⟨.hbm, 96, rfl⟩
abbrev main_while0b_v63 : Ref sig .tc := ⟨.hbm, 97, rfl⟩
abbrev main_while0b_v64 : Ref sig .tc := ⟨.hbm, 98, rfl⟩
abbrev main_while0b_v65 : Ref sig .tc := ⟨.hbm, 99, rfl⟩
abbrev main_while0b_c_25 : Ref sig .tc := ⟨.hbm, 100, rfl⟩
abbrev main_while0b_v66 : Ref sig .tc := ⟨.hbm, 101, rfl⟩
abbrev main_while0b_v67 : Ref sig .tc := ⟨.hbm, 102, rfl⟩
abbrev main_while0b_v68 : Ref sig .tc := ⟨.hbm, 103, rfl⟩
abbrev main_while0b_cst_26 : Ref sig .tc := ⟨.hbm, 104, rfl⟩
abbrev main_while0b_v69 : Ref sig .tc := ⟨.hbm, 105, rfl⟩
abbrev main_while0b_v70 : Ref sig .tc := ⟨.hbm, 106, rfl⟩
abbrev main_while0b_cst_27 : Ref sig .tc := ⟨.hbm, 107, rfl⟩
abbrev main_while0b_v71 : Ref sig .tc := ⟨.hbm, 108, rfl⟩
abbrev main_while0b_v72 : Ref sig .tc := ⟨.hbm, 109, rfl⟩
abbrev main_while0b_v73 : Ref sig .tc := ⟨.hbm, 110, rfl⟩
abbrev main_while0b_c_28 : Ref sig .tc := ⟨.hbm, 111, rfl⟩
abbrev main_while0b_v74 : Ref sig .tc := ⟨.hbm, 112, rfl⟩
abbrev main_v24 : Ref sig .tc := ⟨.hbm, 113, rfl⟩
abbrev main_v25 : Ref sig .tc := ⟨.hbm, 114, rfl⟩

abbrev nD : Nat := 1
abbrev τ : Topo := Topo.v7x

variable {F : FTy → Type} [FloatOps F]

abbrev main_while0_count : Scf.Loop 32 := ⟨0#32, 16#32, 1#32⟩
-- ==== Proof.Frames.lean ====
/-
  The frames: each of the three programs runs, leaves its arguments unchanged and every semaphore counter at zero.
-/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Pre_tiled_cells
public import Idealize.ShloMosaic.Lib.Quiescent

@[expose] public section

noncomputable section

namespace Cert.Proof

open Idealize.ShloMosaic Idealize.SL.Sem

/-- The kernel, on bit patterns, runs and leaves its arguments and semaphores as it found them. -/
theorem frame_kernel : Cert.quiescent_Kernel := fun m ρ _ => Cert.Kernel.Gen.frame m ρ

/-- The kernel on extended reals does too. -/
theorem frame_kernelIdeal : Cert.quiescent_KernelIdeal := fun m ρ _ => Cert.KernelIdeal.Gen.frame m ρ

/-- The reference on extended reals does too: it is host code and declares no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The kernel on extended reals does so, in particular, on tiled cell numbers. -/
theorem frame_kernelIdeal_tiled : Cert.quiescent_KernelIdeal_pre_tiled_cells := fun m ρ _ => Cert.KernelIdeal.Gen.frame m ρ

/-- The reference on extended reals does so, in particular, on tiled cell numbers. -/
theorem frame_referenceIdeal_tiled : Cert.quiescent_ReferenceIdeal_pre_tiled_cells := fun m ρ _ =>
  frame_referenceIdeal m ρ trivial

end Cert.Proof

end
-- ==== Proof.Spec.lean ====
/-
  The mathematics both programs compute, on plain functions over the extended reals: a field of 32768 rows of 64
  features (32 grids of 1024 cells), sixteen steps, and the projection of the last field.
-/
module
public import Idealize.ShloMosaic.Lib.Pipeline.ValueKit
public import Idealize.ShloMosaic.Lib.Pointwise

@[expose] public section

namespace Cert.Field

open Idealize.ShloMosaic

/-- The weight a step's cell memory is blended with: the f32 nearest a tenth. -/
noncomputable abbrev blend : EReal := Ideal.ofBits .f32 0x3DCCCCCD#32

/-- The `tanh` form of the Gaussian error linear unit, with the coefficients both programs print. -/
noncomputable def gelu (h : EReal) : EReal :=
  h * (Ideal.ofBits .f32 0x3F000000#32 *
    (1 + Ideal.tanh (Ideal.ofBits .f32 0x3F4C422A#32 * (h + Ideal.ofBits .f32 0x3D372713#32 * (h * (h * h))))))

/-- A row's residual update: the row plus a two-layer perceptron of it. `A` are the weights into the hidden layer
    (feature, hidden), `B` those out of it (hidden, feature). -/
noncomputable def residual (A : Fin 64 → Fin 256 → EReal) (B : Fin 256 → Fin 64 → EReal) (x : Fin 64 → EReal)
    (f : Fin 64) : EReal :=
  x f + ∑ j : Fin 256, B j f * gelu (∑ e : Fin 64, A e j * x e)

/-- The cell a row stands at. -/
def cell (r : Fin 32768) : Fin 1024 := ⟨r.val % 1024, Nat.mod_lt _ (by decide)⟩

/-- The row of grid `b` at cell `s`. -/
def row (b : Fin 32) (s : Fin 1024) : Fin 32768 := ⟨b.val * 1024 + s.val, by omega⟩

/-- The grid a row belongs to. -/
def grid (r : Fin 32768) : Fin 32 := ⟨r.val / 1024, by omega⟩

theorem grid_row (b : Fin 32) (s : Fin 1024) : grid (row b s) = b := by
  apply Fin.ext; show (b.val * 1024 + s.val) / 1024 = b.val; omega

theorem cell_row (b : Fin 32) (s : Fin 1024) : cell (row b s) = s := by
  apply Fin.ext; show (b.val * 1024 + s.val) % 1024 = s.val; omega

/-- The first field: every feature of a grid's cell is the cell's embedded value scaled by the cell's own vector. -/
noncomputable def start (h : Fin 32 → Fin 1024 → EReal) (v : Fin 64 → Fin 1024 → EReal) (f : Fin 64) (r : Fin 32768) : EReal :=
  h (grid r) (cell r) * v f (cell r)

/-- What the grids together leave at a cell: the sum over the grids of the rows at that cell. -/
noncomputable def total (y : Fin 64 → Fin 32768 → EReal) (f : Fin 64) (s : Fin 1024) : EReal := ∑ b : Fin 32, y f (row b s)

/-- A field with a cell memory blended in. -/
noncomputable def blended (y : Fin 64 → Fin 32768 → EReal) (t : Fin 64 → Fin 1024 → EReal) (f : Fin 64) (r : Fin 32768) : EReal :=
  y f r + blend * t f (cell r)

/-- The field after `k` steps from `x`: a step updates every row, totals the updated rows at each cell, and blends
    each row's total in. -/
noncomputable def field (A : Fin 64 → Fin 256 → EReal) (B : Fin 256 → Fin 64 → EReal) (x : Fin 64 → Fin 32768 → EReal) :
    ℕ → Fin 64 → Fin 32768 → EReal
  | 0 => x
  | k + 1 =>
    let y : Fin 64 → Fin 32768 → EReal := fun f r => residual A B (fun e => field A B x k e r) f
    blended y (total y)

/-- The result: each row of the last field projected on one vector. -/
noncomputable def projected (w : Fin 64 → EReal) (y : Fin 64 → Fin 32768 → EReal) (b : Fin 32) (s : Fin 1024) : EReal :=
  ∑ f : Fin 64, w f * y f (row b s)

/-- The whole computation: embed, sixteen steps, project. `E` is the embedding (grid, channel), `I` the input weights
    (channel, cell), `V` the cells' vectors (cell, feature), `A` and `B` the perceptron's weights, `w` the output vector. -/
noncomputable def answer (E : Fin 32 → Fin 768 → EReal) (I : Fin 768 → Fin 1024 → EReal) (V : Fin 1024 → Fin 64 → EReal)
    (A : Fin 64 → Fin 256 → EReal) (B : Fin 256 → Fin 64 → EReal) (w : Fin 64 → EReal) : Fin 32 → Fin 1024 → EReal :=
  projected w (field A B (start (fun b s => Ideal.tanh (∑ k : Fin 768, E b k * I k s)) (fun f s => V s f)) 16)

/-- The answer from its parts, each known entry by entry. -/
theorem answer_of_parts {E : Fin 32 → Fin 768 → EReal} {I : Fin 768 → Fin 1024 → EReal} {V : Fin 1024 → Fin 64 → EReal}
    {A A' : Fin 64 → Fin 256 → EReal} {B B' : Fin 256 → Fin 64 → EReal} {w w' : Fin 64 → EReal}
    {h : Fin 32 → Fin 1024 → EReal} {v : Fin 64 → Fin 1024 → EReal}
    (hh : ∀ b s, h b s = Ideal.tanh (∑ k : Fin 768, E b k * I k s)) (hv : ∀ f s, v f s = V s f) (hA : ∀ e k, A' e k = A e k)
    (hB : ∀ k f, B' k f = B k f) (hw : ∀ f, w' f = w f) (b : Fin 32) (s : Fin 1024) :
    projected w' (field A' B' (start h v) 16) b s = answer E I V A B w b s := by
  obtain rfl : h = fun b s => Ideal.tanh (∑ k : Fin 768, E b k * I k s) := funext fun b => funext fun s => hh b s
  obtain rfl : v = fun f s => V s f := funext fun f => funext fun s => hv f s
  obtain rfl : A' = A := funext fun e => funext fun k => hA e k
  obtain rfl : B' = B := funext fun k => funext fun f => hB k f
  obtain rfl : w' = w := funext hw
  rfl

end Cert.Field
-- ==== Proof.KernelTrip.lean ====
/-
  What one trip of the kernel's loop computes: from the field kept in the scratch buffer and the cell memory carried from
  trip to trip, the updated field, and its totals over the grids.
-/
module
public import proofs.«01_k».proof.Proof.Spec
public import proofs.«01_k».proof.Proof.Gen.KernelIdeal.Value
import all proofs.«01_k».proof.Proof.Gen.KernelIdeal.Loops
@[expose] public section
set_option maxRecDepth 16384
namespace Cert.KernelIdeal.Field
open Cert.KernelIdeal Cert.KernelIdeal.Gen Idealize.ShloMosaic Idealize.ShloMosaic.TcCoe Idealize.ShloMosaic.Tactic
open Cert.Field

/-- Copies of one block side by side read the block at the position modulo its width. -/
theorem copies_apply {α : Type} (x : S64x1024.Idx → α) (j : S64x16384.Idx) :
    ∀ (n : ℕ) (hs : ∀ s ∈ (List.replicate (n + 1) (⟨S64x1024, x⟩ : (s : Shape) × (s.Idx → α))).map (·.1), s.FitsOff S64x16384 1)
      (c : ℕ) (hc : c < (axisSizes S64x16384 1 (List.replicate (n + 1) (⟨S64x1024, x⟩ : (s : Shape) × (s.Idx → α)))).sum),
      concatenateAt S64x16384 1 j (List.replicate (n + 1) ⟨S64x1024, x⟩) hs c hc
        = x (ix2 (j 0) ⟨c % 1024, Nat.mod_lt _ (by decide)⟩)
  | 0, hs, c, hc => by
    have hlt : c < 1024 := by simpa [axisSizes, List.replicate] using hc
    refine (concatenateAt_singleton 1 j x hs c hc).trans (congrArg x (funext fun a => Fin.ext ?_))
    fin_cases a
    · rfl
    · exact (Nat.mod_eq_of_lt hlt).symm
  | n + 1, hs, c, hc => by
    refine (concatenateAt_cons 1 j x ⟨S64x1024, x⟩ (List.replicate n ⟨S64x1024, x⟩) hs c hc).trans ?_
    split
    · rename_i hlt
      refine congrArg x (funext fun a => Fin.ext ?_)
      fin_cases a
      · rfl
      · exact (Nat.mod_eq_of_lt hlt).symm
    · rename_i hlt
      refine (copies_apply x j n _ _ _).trans (congrArg x (congrArg (ix2 (j 0)) (Fin.ext ?_)))
      have hlt' : ¬ c < 1024 := hlt
      show (c - 1024) % 1024 = c % 1024
      omega

/-- The cell memory a trip blends in, laid out for sixteen grids: the memory at the column's cell, weighted. -/
theorem tile_apply (t : FVec Ideal S64x1024 .f32) (j : S64x16384.Idx) :
    k0_pay2 t j = blend * t (ix2 (j 0) ⟨(j 1).val % 1024, Nat.mod_lt _ (by decide)⟩) := by
  unfold k0_pay2
  simp only [mulf, Ideal.mulf_def]
  refine congrArg₂ (· * ·) rfl ((concatenate_apply S64x16384 1 (List.replicate 16 ⟨S64x1024, t⟩) _ j).trans
    (copies_apply t j 15 _ _ _))

/-- The weights into the hidden layer, as the kernel's buffer lays them out. -/
noncomputable abbrev inward (W1 : Vec Ideal S256x64 .f32) : Fin 64 → Fin 256 → EReal := fun e k => W1 (ix2 k e)
/-- The weights out of the hidden layer, as the kernel's buffer lays them out. -/
noncomputable abbrev outward (W2 : Vec Ideal S64x256 .f32) : Fin 256 → Fin 64 → EReal := fun k f => W2 (ix2 f k)

/-- The perceptron's payload at a column: the residual update of the column. -/
theorem residual_apply (W1 : Vec Ideal S256x64 .f32) (W2 : Vec Ideal S64x256 .f32) (t v : FVec Ideal S64x16384 .f32)
    (f : Fin 64) (r : Fin 16384) :
    k0_pay7 (F := Ideal) W1 W2 t v (ix2 f r)
      = residual (inward W1) (outward W2) (fun e => v (ix2 e r) + t (ix2 e r)) f := by
  unfold k0_pay7
  pointwise
  rfl

/-- The two halves of the columns are computed alike. -/
theorem first_half_eq (W1 : Vec Ideal S256x64 .f32) (W2 : Vec Ideal S64x256 .f32) (t : FVec Ideal S64x1024 .f32)
    (v : FVec Ideal S64x16384 .f32) : k0_pay3 W1 W2 t v = k0_pay7 W1 W2 (k0_pay2 t) v := rfl

/-- A buffer's contents as a field of rows. -/
noncomputable abbrev rows (G : S64x32768.Idx → EReal) : Fin 64 → Fin 32768 → EReal := fun f r => G (ix2 f r)
/-- A carried value as a memory of cells. -/
noncomputable abbrev cells (t : S64x1024.Idx → EReal) : Fin 64 → Fin 1024 → EReal := fun f s => t (ix2 f s)

/-- The field after a trip's updates, from the field and the memory before it. -/
noncomputable def updated (W1 : Vec Ideal S256x64 .f32) (W2 : Vec Ideal S64x256 .f32) (G : S64x32768.Idx → EReal)
    (t : S64x1024.Idx → EReal) (f : Fin 64) (r : Fin 32768) : EReal :=
  residual (inward W1) (outward W2) (fun e => blended (rows G) (cells t) e r) f

/-- A half's payload at a column, when the half was loaded from column `o` on. -/
theorem half_apply (W1 : Vec Ideal S256x64 .f32) (W2 : Vec Ideal S64x256 .f32) (G : S64x32768.Idx → EReal)
    (t : FVec Ideal S64x1024 .f32) (v : FVec Ideal S64x16384 .f32) (o : ℕ) (ho : o + 16384 ≤ 32768) (hm : o % 1024 = 0)
    (hv : ∀ (e : Fin 64) (r : Fin 16384), v (ix2 e r) = G (ix2 e ⟨o + r.val, by omega⟩)) (f : Fin 64) (r : Fin 16384) :
    k0_pay7 (F := Ideal) W1 W2 (k0_pay2 t) v (ix2 f r) = updated W1 W2 G t f ⟨o + r.val, by omega⟩ := by
  rw [residual_apply, updated]
  refine congrFun (congrArg _ (funext fun e => ?_)) f
  rw [hv, tile_apply]
  refine congrArg₂ (· + ·) rfl (congrArg₂ (· * ·) rfl (congrArg t (congrArg (ix2 e) (Fin.ext ?_))))
  show r.val % 1024 = (o + r.val) % 1024
  omega

/-- A cast of a block to its own shape changes nothing: the second half as stored, -/
theorem stored_second (W1 : Vec Ideal S256x64 .f32) (W2 : Vec Ideal S64x256 .f32) (t v : FVec Ideal S64x16384 .f32) :
    k0_pay8 W1 W2 t v = k0_pay7 W1 W2 t v := shapeCast_self _ _
/-- the first half as stored, -/
theorem stored_first (W1 : Vec Ideal S256x64 .f32) (W2 : Vec Ideal S64x256 .f32) (t : FVec Ideal S64x1024 .f32)
    (v : FVec Ideal S64x16384 .f32) : k0_pay4 W1 W2 t v = k0_pay7 W1 W2 (k0_pay2 t) v := shapeCast_self _ _
/-- and the weights as read. -/
theorem weights_in (W1 : Vec Ideal S256x64 .f32) : k0_pay48 W1 = W1 := shapeCast_self _ _
theorem weights_out (W2 : Vec Ideal S64x256 .f32) : k0_pay49 W2 = W2 := shapeCast_self _ _

/-- Where a block of columns places a column. -/
theorem block_emb (o : ℕ) (inb : ∀ a, (![0, o] : Fin S64x32768.rank → ℕ) a + S64x16384.size a ≤ S64x32768.size a)
    (ho : o + 16384 ≤ 32768) (e : Fin 64) (r : Fin 16384) :
    (Rect.unit (s := S64x32768) ![0, o] S64x16384.size inb).emb (ix2 e r) = ix2 e ⟨o + r.val, by omega⟩ := by
  funext a
  apply Fin.ext
  fin_cases a
  · show 0 + 1 * e.val = e.val; omega
  · show o + 1 * r.val = o + r.val; omega

/-- The sums a trip carries on: the updated field's totals over the thirty-two grids. -/
theorem sums_apply (W1 : Vec Ideal S256x64 .f32) (W2 : Vec Ideal S64x256 .f32) (G : S64x32768.Idx → EReal)
    (t : FVec Ideal S64x1024 .f32) (lo hi : FVec Ideal S64x16384 .f32)
    (hlo : ∀ (e : Fin 64) (r : Fin 16384), lo (ix2 e r) = G (ix2 e ⟨0 + r.val, by omega⟩))
    (hhi : ∀ (e : Fin 64) (r : Fin 16384), hi (ix2 e r) = G (ix2 e ⟨16384 + r.val, by omega⟩))
    (f : Fin 64) (s : Fin 1024) :
    k0_pay51 (F := Ideal) (k0_pay7 W1 W2 (k0_pay2 t) hi)
        (k0_pay9 W1 W2 (k0_pay2 t) (k0_pay3 W1 W2 t lo) (k0_pay5 W1 W2 t lo) (k0_pay6 W1 W2 t lo) hi)
        (k0_pay10 W1 W2 (k0_pay2 t) hi) (ix2 f s)
      = total (updated W1 W2 G t) f s := by
  unfold k0_pay51 k0_pay9 k0_pay10 k0_pay5 k0_pay6
  pointwise
  simp only [first_half_eq, half_apply W1 W2 G t lo 0 (by decide) (by decide) hlo,
    half_apply W1 W2 G t hi 16384 (by decide) (by decide) hhi]
  simp only [total, Fin.sum_univ_castSucc, Fin.sum_univ_zero, zero_add, row, Fin.val_castSucc, Fin.val_last, Nat.reduceMul,
    ← Nat.add_assoc, Nat.reduceAdd, Nat.zero_add]

variable (𝒱 : Variants) (c : Dev nD) (bd : Option 𝒱.V)
  (arg0 : Memref sig .tc .vmem S32x768 .f32) (harg0 : arg0.IsWhole) (arg1 : Memref sig .tc .vmem S768x1024 .f32) (harg1 : arg1.IsWhole)
  (arg2 : Memref sig .tc .vmem S64x1024 .f32) (harg2 : arg2.IsWhole) (arg3 : Memref sig .tc .vmem S256x64 .f32) (harg3 : arg3.IsWhole)
  (arg4 : Memref sig .tc .vmem S64x256 .f32) (harg4 : arg4.IsWhole) (arg5 : Memref sig .tc .vmem S1x64 .f32) (harg5 : arg5.IsWhole)
  (arg6 : Memref sig .tc .vmem S32x1024 .f32) (harg6 : arg6.IsWhole) (arg7 : Memref sig .tc .vmem S64x32768 .f32) (harg7 : arg7.IsWhole)
  (z : FVec Ideal S64x1024 .f32) (W1 : Vec Ideal S256x64 .f32) (W2 : Vec Ideal S64x256 .f32)

/-- A trip leaves the updated field in the scratch buffer. -/
theorem trip_field (k : Fin k0_t1_loop.trips) (t : FVec Ideal S64x1024 .f32) (g : BufTy.Contents (Elt Ideal) arg7.view.ty)
    (f : Fin 64) (r : Fin 32768) :
    arg7.view.read (Elt Ideal) (arg7.view.writes (Elt Ideal) g
        (tripL_k0_t1 (F := Ideal) 𝒱 c bd arg0 harg0 arg1 harg1 arg2 harg2 arg3 harg3 arg4 harg4 arg5 harg5 arg6 harg6 arg7 harg7 z W1 W2 k t g)) (ix2 f r)
      = updated W1 W2 (arg7.view.read (Elt Ideal) g) t f r := by
  unfold tripL_k0_t1 trip_k0_t1
  dsimp only
  sl_unfold_words
  refine View.read_writes_apply_of_pieces (Val := Elt Ideal) (e := .f32) arg7.view g (fun i => updated W1 W2 (arg7.view.read (Elt Ideal) g) t (i 0) (i 1)) _ ?_ (ix2 f r) ?_
  · intro p hp x
    simp only [List.mem_cons, List.not_mem_nil, or_false] at hp
    rcases hp with rfl | rfl
    · obtain ⟨e, b, rfl⟩ : ∃ (e : Fin 64) (b : Fin 16384), x = ix2 e b := ⟨x 0, x 1, by funext a; fin_cases a <;> rfl⟩
      dsimp only
      rw [block_emb 16384 _ (by decide), stored_second, weights_in, weights_out]
      exact half_apply W1 W2 _ t _ 16384 (by decide) (by decide) (fun e r => congrArg _ (block_emb 16384 _ (by decide) e r)) e b
    · obtain ⟨e, b, rfl⟩ : ∃ (e : Fin 64) (b : Fin 16384), x = ix2 e b := ⟨x 0, x 1, by funext a; fin_cases a <;> rfl⟩
      dsimp only
      rw [block_emb 0 _ (by decide), stored_first, weights_in, weights_out]
      exact half_apply W1 W2 _ t _ 0 (by decide) (by decide) (fun e r => congrArg _ (block_emb 0 _ (by decide) e r)) e b
  · exact View.cover_of_tiledL (s := S64x32768) _ S64x16384.size (by sl_kernel_rfl) _

/-- A trip carries on the updated field's totals. -/
theorem trip_sums (k : Fin k0_t1_loop.trips) (t : FVec Ideal S64x1024 .f32) (g : BufTy.Contents (Elt Ideal) arg7.view.ty)
    (f : Fin 64) (s : Fin 1024) :
    (tripR_k0_t1 (F := Ideal) 𝒱 c bd arg0 harg0 arg1 harg1 arg2 harg2 arg3 harg3 arg4 harg4 arg5 harg5 arg6 harg6 arg7 harg7 z W1 W2 k t g) (ix2 f s)
      = total (updated W1 W2 (arg7.view.read (Elt Ideal) g) t) f s := by
  unfold tripR_k0_t1 trip_k0_t1
  dsimp only
  sl_unfold_words
  rw [weights_in, weights_out]
  exact sums_apply W1 W2 (arg7.view.read (Elt Ideal) g) t _ _ (fun e r => congrArg _ (block_emb 0 _ (by decide) e r))
    (fun e r => congrArg _ (block_emb 16384 _ (by decide) e r)) f s

end Cert.KernelIdeal.Field
-- ==== Proof.KernelLoop.lean ====
/-
  The kernel's sixteen trips: after `k` of them the field in the scratch buffer with the carried memory blended in is the
  field after `k` steps.
-/
module
public import proofs.«01_k».proof.Proof.KernelTrip
@[expose] public section
set_option maxRecDepth 16384
namespace Cert.KernelIdeal.Field
open Cert.KernelIdeal Cert.KernelIdeal.Gen Idealize.ShloMosaic Idealize.ShloMosaic.TcCoe Idealize.ShloMosaic.Tactic
open Cert.Field

/-- The memory carried into the first trip is zero at every cell. -/
theorem memory_start (j : S64x1024.Idx) : (k0_pay50 (F := Ideal) : FVec Ideal S64x1024 .f32) j = (0 : EReal) := by
  unfold k0_pay50
  pointwise

variable (𝒱 : Variants) (c : Dev nD) (bd : Option 𝒱.V)
  (arg0 : Memref sig .tc .vmem S32x768 .f32) (harg0 : arg0.IsWhole) (arg1 : Memref sig .tc .vmem S768x1024 .f32) (harg1 : arg1.IsWhole)
  (arg2 : Memref sig .tc .vmem S64x1024 .f32) (harg2 : arg2.IsWhole) (arg3 : Memref sig .tc .vmem S256x64 .f32) (harg3 : arg3.IsWhole)
  (arg4 : Memref sig .tc .vmem S64x256 .f32) (harg4 : arg4.IsWhole) (arg5 : Memref sig .tc .vmem S1x64 .f32) (harg5 : arg5.IsWhole)
  (arg6 : Memref sig .tc .vmem S32x1024 .f32) (harg6 : arg6.IsWhole) (arg7 : Memref sig .tc .vmem S64x32768 .f32) (harg7 : arg7.IsWhole)
  (z : FVec Ideal S64x1024 .f32) (W1 : Vec Ideal S256x64 .f32) (W2 : Vec Ideal S64x256 .f32)

/-- The state after `k` trips from contents `G`: the stored field with the carried memory blended in is the field after
    `k` steps. -/
theorem loop_field (G : BufTy.Contents (Elt Ideal) arg7.view.ty) (k : ℕ) (hk : k ≤ k0_t1_loop.trips) (f : Fin 64) (r : Fin 32768) :
    blended
        (rows (arg7.view.read (Elt Ideal) (arg7.view.writes (Elt Ideal) G
          (st_k0_t1 (F := Ideal) 𝒱 c bd arg0 harg0 arg1 harg1 arg2 harg2 arg3 harg3 arg4 harg4 arg5 harg5 arg6 harg6 arg7 harg7 z W1 W2 G k0_pay50 k).2)))
        (cells (st_k0_t1 (F := Ideal) 𝒱 c bd arg0 harg0 arg1 harg1 arg2 harg2 arg3 harg3 arg4 harg4 arg5 harg5 arg6 harg6 arg7 harg7 z W1 W2 G k0_pay50 k).1) f r
      = field (inward W1) (outward W2) (rows (arg7.view.read (Elt Ideal) G)) k f r := by
  induction k generalizing f r with
  | zero =>
    rw [st_k0_t1_zero]
    simp only [blended, cells, memory_start, mul_zero, add_zero]
    rfl
  | succ k ih =>
    rw [st_k0_t1_succ (F := Ideal) 𝒱 c bd arg0 harg0 arg1 harg1 arg2 harg2 arg3 harg3 arg4 harg4 arg5 harg5 arg6 harg6 arg7 harg7 z W1 W2 G k0_pay50 ⟨k, hk⟩]
    dsimp only
    rw [View.writes_append]
    simp only [blended, rows, cells, field]
    simp only [trip_field, trip_sums]
    have hu : updated W1 W2
          (arg7.view.read (Elt Ideal) (arg7.view.writes (Elt Ideal) G
            (st_k0_t1 (F := Ideal) 𝒱 c bd arg0 harg0 arg1 harg1 arg2 harg2 arg3 harg3 arg4 harg4 arg5 harg5 arg6 harg6 arg7 harg7 z W1 W2 G k0_pay50 k).2))
          (st_k0_t1 (F := Ideal) 𝒱 c bd arg0 harg0 arg1 harg1 arg2 harg2 arg3 harg3 arg4 harg4 arg5 harg5 arg6 harg6 arg7 harg7 z W1 W2 G k0_pay50 k).1
        = fun f r => residual (inward W1) (outward W2)
            (fun e => field (inward W1) (outward W2) (rows (arg7.view.read (Elt Ideal) G)) k e r) f := by
      funext f r
      exact congrFun (congrArg _ (funext fun e => ih (Nat.le_of_succ_le hk) e r)) f
    rw [hu]

end Cert.KernelIdeal.Field
-- ==== Proof.KernelStart.lean ====
/-
  The field the kernel's thirty-two first stores leave in the scratch buffer, one store a grid.
-/
module
public import proofs.«01_k».proof.Proof.KernelLoop
import all proofs.«01_k».proof.Proof.Gen.KernelIdeal.Frame.RunA
@[expose] public section
set_option maxRecDepth 16384
namespace Cert.KernelIdeal.Field
open Cert.KernelIdeal Cert.KernelIdeal.Gen Idealize.ShloMosaic Idealize.ShloMosaic.TcCoe Idealize.ShloMosaic.Tactic
open Cert.Field

/-- Where a grid's block of columns places a cell: at the grid's row for the cell. -/
theorem grid_emb (b : Fin 32) (o : ℕ) (ho : o = b.val * 1024)
    (inb : ∀ a, (![0, o] : Fin S64x32768.rank → ℕ) a + S64x1024.size a ≤ S64x32768.size a) (f : Fin 64) (s : Fin 1024) :
    (Rect.unit (s := S64x32768) ![0, o] S64x1024.size inb).emb (ix2 f s) = ix2 f (row b s) := by
  subst ho
  funext a
  apply Fin.ext
  fin_cases a
  · show 0 + 1 * f.val = f.val; omega
  · show b.val * 1024 + 1 * s.val = b.val * 1024 + s.val; omega

/-- One grid's store: its row of embedded values scaled by the cells' vectors, put at the grid's columns. -/
theorem start_block (H : FVec Ideal S32x1024 .f32) (C : FVec Ideal S64x1024 .f32) (b : ℕ) (hb : b < 32) (o : ℕ) (ho : o = b * 1024)
    (hs : Shape.Slices S32x1024 ![b, 0] S1x1024) (hbr : Shape.Broadcasts S1x1024 S64x1024) (hc : Shape.ShapeCasts S64x1024 S64x1024)
    (inb : ∀ a, (![0, o] : Fin S64x32768.rank → ℕ) a + S64x1024.size a ≤ S64x32768.size a) (x : S64x1024.Idx) :
    shapeCast S64x1024 (mulf (broadcastTo S64x1024 (extractStridedSlice S1x1024 ![b, 0] H hs) hbr) C) hc x
      = start (fun b s => H (ix2 b s)) (cells C) ((Rect.unit (s := S64x32768) ![0, o] S64x1024.size inb).emb x 0)
          ((Rect.unit (s := S64x32768) ![0, o] S64x1024.size inb).emb x 1) := by
  obtain ⟨f, s, rfl⟩ : ∃ (f : Fin 64) (s : Fin 1024), x = ix2 f s := ⟨x 0, x 1, by funext a; fin_cases a <;> rfl⟩
  rw [grid_emb ⟨b, hb⟩ o ho]
  pointwise [start]
  rw [grid_row, cell_row]

/-- A whole buffer read from its corner is its contents. -/
theorem whole_read {S : Shape} (a : Memref sig .tc .vmem S .f32) (ha : a.IsWhole) (X : Vec Ideal S .f32) (off : Fin S.rank → ℕ)
    (hoff : off = fun _ => 0) (inb : ∀ i, off i + S.size i ≤ S.size i) :
    View.readAt (Elt Ideal) a.view (Rect.unit off S.size inb).toLoadRect (ha.unread X) = X := by
  rw [View.readAt_eq_ld, ha.read_unread, View.ld_unit_zero hoff]

variable (c : Dev nD)
  (arg0 : Memref sig .tc .vmem S32x768 .f32) (harg0 : arg0.IsWhole) (arg1 : Memref sig .tc .vmem S768x1024 .f32) (harg1 : arg1.IsWhole)
  (arg2 : Memref sig .tc .vmem S64x1024 .f32) (harg2 : arg2.IsWhole)
  (arg7 : Memref sig .tc .vmem S64x32768 .f32) (harg7 : arg7.IsWhole)
  (x0 : Vec Ideal S32x768 .f32) (x1 : Vec Ideal S768x1024 .f32) (x2 : Vec Ideal S64x1024 .f32)

/-- The embedded values: the hyperbolic tangent of the embedding times the input weights. -/
noncomputable def embedded (b : Fin 32) (s : Fin 1024) : EReal := Ideal.tanh (∑ k : Fin 768, x0 (ix2 b k) * x1 (ix2 k s))

theorem embedded_apply (b : Fin 32) (s : Fin 1024) : k0_pay11 x0 x1 (ix2 b s) = embedded x0 x1 b s := by
  unfold k0_pay11
  pointwise [embedded]

/-- After the first stores the scratch buffer reads the first field. -/
theorem start_field (g : BufTy.Contents (Elt Ideal) arg7.view.ty) (f : Fin 64) (r : Fin 32768) :
    arg7.view.read (Elt Ideal) (arg7.view.writes (Elt Ideal) g
        (kernelRun0_A.sl.HS0_32 c arg0 harg0 arg1 harg1 arg2 harg2 x0 x1 x2)) (ix2 f r)
      = start (embedded x0 x1) (cells x2) f r := by
  have hH : embedded x0 x1 = fun b s => k0_pay11 x0 x1 (ix2 b s) := by funext b s; exact (embedded_apply x0 x1 b s).symm
  have hC : (x2 : FVec Ideal S64x1024 .f32) = k0_pay12 x2 := (shapeCast_self _ _).symm
  refine (View.read_writes_apply_of_pieces (Val := Elt Ideal) (e := .f32) arg7.view g
    (fun i => start (fun b s => k0_pay11 x0 x1 (ix2 b s)) (cells (k0_pay12 x2)) (i 0) (i 1)) _ ?_ (ix2 f r) ?_).trans ?_
  · unfold kernelRun0_A.sl.HS0_32
    sl_unfold_words
    simp only [whole_read (S := S32x768) arg0 harg0 x0 ![0, 0] (by funext a; fin_cases a <;> rfl),
      whole_read (S := S768x1024) arg1 harg1 x1 ![0, 0] (by funext a; fin_cases a <;> rfl),
      whole_read (S := S64x1024) arg2 harg2 x2 ![0, 0] (by funext a; fin_cases a <;> rfl)]
    simp only [List.forall_mem_cons, List.not_mem_nil, false_imp_iff, implies_true, and_true]
    refine ⟨?_, ?_, ?_, ?_, ?_, ?_, ?_, ?_, ?_, ?_, ?_, ?_, ?_, ?_, ?_, ?_, ?_, ?_, ?_, ?_, ?_, ?_, ?_, ?_, ?_, ?_, ?_, ?_, ?_, ?_,
      ?_, ?_⟩
    all_goals
      intro x
      exact start_block (k0_pay11 x0 x1) (k0_pay12 x2) _ (by decide) _ (by decide) (by decide)
        broadcasts_S1x1024_S64x1024 shapeCasts_S64x1024_S64x1024 _ x
  · unfold kernelRun0_A.sl.HS0_32
    exact View.cover_of_tiledL (s := S64x32768) _ S64x1024.size (by sl_kernel_rfl) _
  · rw [hH, ← hC]; rfl
end Cert.KernelIdeal.Field
-- ==== Proof.KernelRun.lean ====
/-
  What the kernel's body leaves in the result's buffer: the last field projected, one store a grid.
-/
module
public import proofs.«01_k».proof.Proof.KernelStart
import all proofs.«01_k».proof.Proof.Gen.KernelIdeal.Frame.RunA
@[expose] public section
set_option maxRecDepth 16384
namespace Cert.KernelIdeal.Field
open Cert.KernelIdeal Cert.KernelIdeal.Gen Idealize.ShloMosaic Idealize.ShloMosaic.TcCoe Idealize.ShloMosaic.Tactic
open Cert.Field

/-- Where a grid's row of the result places a cell. -/
theorem result_emb (b : ℕ) (hb : b < 32)
    (inb : ∀ a, (![b, 0] : Fin S32x1024.rank → ℕ) a + S1x1024.size a ≤ S32x1024.size a) (s : Fin 1024) :
    (Rect.unit (s := S32x1024) ![b, 0] S1x1024.size inb).emb (ix2 0 s) = ix2 ⟨b, hb⟩ s := by
  funext a
  apply Fin.ext
  fin_cases a
  · show b + 1 * 0 = b; omega
  · show 0 + 1 * s.val = s.val; omega

/-- One grid's row of the result: the projection of the grid's columns with the carried memory blended in. -/
theorem result_block (T : FVec Ideal S64x1024 .f32) (w : FVec Ideal S1x64 .f32) (Y : Fin 64 → Fin 32768 → EReal) (b : ℕ) (hb : b < 32)
    (v : Vec Ideal S64x1024 .f32)
    (hv : ∀ (f : Fin 64) (s : Fin 1024), v (ix2 f s) + blend * T (ix2 f s) = Y f (row ⟨b, hb⟩ s))
    (inb : ∀ a, (![b, 0] : Fin S32x1024.rank → ℕ) a + S1x1024.size a ≤ S32x1024.size a) (x : S1x1024.Idx) :
    k0_pay56 (F := Ideal) T w v x
      = projected (fun f => w (ix2 0 f)) Y ((Rect.unit (s := S32x1024) ![b, 0] S1x1024.size inb).emb x 0)
          ((Rect.unit (s := S32x1024) ![b, 0] S1x1024.size inb).emb x 1) := by
  obtain ⟨s, rfl⟩ : ∃ s : Fin 1024, x = ix2 0 s :=
    ⟨x 1, by funext a; fin_cases a; · exact Subsingleton.elim (α := Fin 1) _ _
             · rfl⟩
  rw [result_emb b hb]
  unfold k0_pay56
  pointwise
  unfold projected
  exact Finset.sum_congr rfl fun f _ => congrArg₂ (· * ·) rfl (hv f s)

variable (c : Dev nD)
  (arg0 : Memref sig .tc .vmem S32x768 .f32) (harg0 : arg0.IsWhole) (arg1 : Memref sig .tc .vmem S768x1024 .f32) (harg1 : arg1.IsWhole)
  (arg2 : Memref sig .tc .vmem S64x1024 .f32) (harg2 : arg2.IsWhole) (arg3 : Memref sig .tc .vmem S256x64 .f32) (harg3 : arg3.IsWhole)
  (arg4 : Memref sig .tc .vmem S64x256 .f32) (harg4 : arg4.IsWhole) (arg5 : Memref sig .tc .vmem S1x64 .f32) (harg5 : arg5.IsWhole)
  (arg6 : Memref sig .tc .vmem S32x1024 .f32) (harg6 : arg6.IsWhole) (arg7 : Memref sig .tc .vmem S64x32768 .f32) (harg7 : arg7.IsWhole)
  (x0 : Vec Ideal S32x768 .f32) (x1 : Vec Ideal S768x1024 .f32) (x2 : Vec Ideal S64x1024 .f32)
  (x3 : Vec Ideal S256x64 .f32) (x4 : Vec Ideal S64x256 .f32) (x5 : Vec Ideal S1x64 .f32)

/-- The pieces the first stores list. -/
noncomputable abbrev firstStores : List (View.Piece (Elt Ideal) S64x32768 .f32) :=
  kernelRun0_A.sl.HS0_32 c arg0 harg0 arg1 harg1 arg2 harg2 x0 x1 x2

/-- The carried memory and the stores made after all the trips. -/
noncomputable abbrev lastState : FVec Ideal S64x1024 .f32 × List (View.Piece (Elt Ideal) S64x32768 .f32) :=
  st_k0_t1 (F := Ideal) Variants.none c none arg0 harg0 arg1 harg1 arg2 harg2 arg3 harg3 arg4 harg4 arg5 harg5 arg6 harg6 arg7 harg7
    (kernelRun0_A.sl.r_6 c arg0 harg0 arg1 harg1 arg2 harg2 x0 x1 x2)
    (View.readAt (Elt Ideal) arg3.view (Rect.unit ![0, 0] S256x64.size inb_S256x64_S256x64_0_0).toLoadRect (harg3.unread x3))
    (View.readAt (Elt Ideal) arg4.view (Rect.unit ![0, 0] S64x256.size inb_S64x256_S64x256_0_0).toLoadRect (harg4.unread x4))
    (arg7.view.writes (Elt Ideal) arg7.view.junk (firstStores c arg0 harg0 arg1 harg1 arg2 harg2 x0 x1 x2)) k0_pay50
    (Scf.trips k0_t1_loop.lb k0_t1_loop.ub k0_t1_loop.st)

/-- The last field, as the kernel's inputs give it. -/
noncomputable def lastField : Fin 64 → Fin 32768 → EReal :=
  field (inward x3) (outward x4) (start (embedded x0 x1) (cells x2)) 16

/-- A grid's columns loaded after the trips, with the carried memory blended in, are the last field's. -/
theorem last_load (b : ℕ) (hb : b < 32) (o : ℕ) (ho : o = b * 1024)
    (inb : ∀ a, (![0, o] : Fin S64x32768.rank → ℕ) a + S64x1024.size a ≤ S64x32768.size a) (f : Fin 64) (s : Fin 1024) :
    (View.readCov (Val := Elt Ideal) arg7.view
        ((lastState c arg0 harg0 arg1 harg1 arg2 harg2 arg3 harg3 arg4 harg4 arg5 harg5 arg6 harg6 arg7 harg7 x0 x1 x2 x3 x4).2
          ++ firstStores c arg0 harg0 arg1 harg1 arg2 harg2 x0 x1 x2)
        (Rect.unit (s := S64x32768) ![0, o] S64x1024.size inb).toLoadRect (ix2 f s) : EReal)
      + blend * (lastState c arg0 harg0 arg1 harg1 arg2 harg2 arg3 harg3 arg4 harg4 arg5 harg5 arg6 harg6 arg7 harg7 x0 x1 x2 x3 x4).1 (ix2 f s)
      = lastField x0 x1 x2 x3 x4 f (row ⟨b, hb⟩ s) := by
  have h := loop_field Variants.none c none arg0 harg0 arg1 harg1 arg2 harg2 arg3 harg3 arg4 harg4 arg5 harg5 arg6 harg6 arg7 harg7
    (kernelRun0_A.sl.r_6 c arg0 harg0 arg1 harg1 arg2 harg2 x0 x1 x2)
    (View.readAt (Elt Ideal) arg3.view (Rect.unit ![0, 0] S256x64.size inb_S256x64_S256x64_0_0).toLoadRect (harg3.unread x3))
    (View.readAt (Elt Ideal) arg4.view (Rect.unit ![0, 0] S64x256.size inb_S64x256_S64x256_0_0).toLoadRect (harg4.unread x4))
    (arg7.view.writes (Elt Ideal) arg7.view.junk (firstStores c arg0 harg0 arg1 harg1 arg2 harg2 x0 x1 x2)) 16 (by decide)
    f (row ⟨b, hb⟩ s)
  have hstart : rows (arg7.view.read (Elt Ideal)
        (arg7.view.writes (Elt Ideal) arg7.view.junk (firstStores c arg0 harg0 arg1 harg1 arg2 harg2 x0 x1 x2)))
      = start (embedded x0 x1) (cells x2) := by
    funext f r
    exact start_field c arg0 harg0 arg1 harg1 arg2 harg2 arg7 x0 x1 x2 _ f r
  rw [hstart, blended, cell_row] at h
  refine Eq.trans ?_ (h.trans (by
    rw [whole_read (S := S256x64) arg3 harg3 x3 ![0, 0] (by funext a; fin_cases a <;> rfl),
      whole_read (S := S64x256) arg4 harg4 x4 ![0, 0] (by funext a; fin_cases a <;> rfl)]
    rfl))
  unfold View.readCov
  rw [View.writes_append]
  refine congrArg₂ (· + ·) (congrArg (arg7.view.read (Elt Ideal) _) ?_) rfl
  exact grid_emb ⟨b, hb⟩ o ho inb f s

set_option maxHeartbeats 1000000 in
/-- The result's buffer after the body. -/
theorem result_apply (i : S32x1024.Idx) :
    out0_A_6 c arg0 harg0 arg1 harg1 arg2 harg2 arg3 harg3 arg4 harg4 arg5 harg5 arg6 harg6 arg7 harg7 x0 x1 x2 x3 x4 x5 i
      = projected (fun f => x5 (ix2 0 f)) (lastField x0 x1 x2 x3 x4) (i 0) (i 1) := by
  unfold out0_A_6
  have hw : kernelRun0_A.sl.r_8 c arg5 harg5 x5 = x5 := by
    unfold kernelRun0_A.sl.r_8 k0_pay52
    rw [shapeCast_self, whole_read (S := S1x64) arg5 harg5 x5 ![0, 0] (by funext a; fin_cases a <;> rfl)]
  rw [View.read_writes_eq_canon _ _ _ (cover0_A_6 c arg0 harg0 arg1 harg1 arg2 harg2 arg3 harg3 arg4 harg4 arg5 harg5 arg6 harg6 arg7 harg7 x0 x1 x2 x3 x4 x5)]
  refine (View.canon_apply_of_pieces (Val := Elt Ideal) (e := .f32) (S := S32x1024)
    (fun i => projected (fun f => kernelRun0_A.sl.r_8 c arg5 harg5 x5 (ix2 0 f)) (lastField x0 x1 x2 x3 x4) (i 0) (i 1)) _ ?_ i
    (cover0_A_6 c arg0 harg0 arg1 harg1 arg2 harg2 arg3 harg3 arg4 harg4 arg5 harg5 arg6 harg6 arg7 harg7 x0 x1 x2 x3 x4 x5 i)).trans
    (by rw [hw])
  unfold kernelRun0_A
  dsimp only
  simp only [List.forall_mem_cons, List.not_mem_nil, false_imp_iff, implies_true, and_true]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_,
    ?_, ?_⟩
  all_goals
    intro x
    exact result_block
      (lastState c arg0 harg0 arg1 harg1 arg2 harg2 arg3 harg3 arg4 harg4 arg5 harg5 arg6 harg6 arg7 harg7 x0 x1 x2 x3 x4).1
      (kernelRun0_A.sl.r_8 c arg5 harg5 x5) (lastField x0 x1 x2 x3 x4) _ (by decide) _
      (fun f s => last_load c arg0 harg0 arg1 harg1 arg2 harg2 arg3 harg3 arg4 harg4 arg5 harg5 arg6 harg6 arg7 harg7
        x0 x1 x2 x3 x4 _ (by decide) _ (by decide) (by decide) f s) _ x

end Cert.KernelIdeal.Field
-- ==== Proof.KernelValue.lean ====
/-
  What the kernel's result array holds after the run, as a function of the argument arrays.
-/
module
public import proofs.«01_k».proof.Proof.KernelRun
@[expose] public section
set_option maxRecDepth 16384
namespace Cert.KernelIdeal.Field
open Cert.KernelIdeal Cert.KernelIdeal.Gen Idealize.ShloMosaic Idealize.ShloMosaic.TcCoe Idealize.ShloMosaic.Tactic
open Cert.Field

variable (m : (ℓ : Loc nD τ sig) → Buf (Elt Ideal) ℓ) (c : Dev nD)

/-- Every operand's one block starts at its array's corner. -/
theorem corner : win0_0.index t0_0 = ![0, 0] ∧ win0_1.index t0_0 = ![0, 0] ∧ win0_2.index t0_0 = ![0, 0] ∧ win0_3.index t0_0 = ![0, 0]
    ∧ win0_4.index t0_0 = ![0, 0] ∧ win0_5.index t0_0 = ![0, 0] ∧ win0_6.index t0_0 = ![0, 0] := by decide +kernel

/-- The embedding's block is the argument array. -/
theorem block_embedding (i : S32x768.Idx) : (show FVec Ideal S32x768 .f32 from iblk m c 0 t0_0) i = m ((c : Thread nD τ).loc main_arg0) i := by
  blk_ext! [iblk, V, corner]

/-- The input weights' block is the argument array. -/
theorem block_input (i : S768x1024.Idx) : (show FVec Ideal S768x1024 .f32 from iblk m c 1 t0_0) i = m ((c : Thread nD τ).loc main_arg1) i := by
  blk_ext! [iblk, V, corner]

/-- The cells' vectors reach the kernel transposed. -/
theorem block_cells (f : Fin 64) (s : Fin 1024) :
    (show FVec Ideal S64x1024 .f32 from iblk m c 2 t0_0) (ix2 f s) = m ((c : Thread nD τ).loc main_arg2) (ix2 s f) := by
  blk_ext! [iblk, V, corner]

/-- The weights into the hidden layer reach the kernel transposed. -/
theorem block_inward (k : Fin 256) (e : Fin 64) :
    (show FVec Ideal S256x64 .f32 from iblk m c 3 t0_0) (ix2 k e) = m ((c : Thread nD τ).loc main_arg3) (ix2 e k) := by
  blk_ext! [iblk, V, corner]

/-- The weights out of the hidden layer reach the kernel transposed. -/
theorem block_outward (f : Fin 64) (k : Fin 256) :
    (show FVec Ideal S64x256 .f32 from iblk m c 4 t0_0) (ix2 f k) = m ((c : Thread nD τ).loc main_arg4) (ix2 k f) := by
  blk_ext! [iblk, V, corner]

/-- The output vector reaches the kernel as one row. -/
theorem block_output (f : Fin 64) :
    (show FVec Ideal S1x64 .f32 from iblk m c 5 t0_0) (ix2 0 f) = m ((c : Thread nD τ).loc main_arg5) (ix1 f) := by
  blk_ext! [iblk, V, corner]

/-- The answer the kernel's argument arrays give. -/
noncomputable def wanted : Fin 32 → Fin 1024 → EReal :=
  answer (fun b k => m ((c : Thread nD τ).loc main_arg0) (ix2 b k)) (fun k s => m ((c : Thread nD τ).loc main_arg1) (ix2 k s))
    (fun s f => m ((c : Thread nD τ).loc main_arg2) (ix2 s f)) (fun e k => m ((c : Thread nD τ).loc main_arg3) (ix2 e k))
    (fun k f => m ((c : Thread nD τ).loc main_arg4) (ix2 k f)) (fun f => m ((c : Thread nD τ).loc main_arg5) (ix1 f))

/-- The kernel's result array holds the answer. -/
theorem final : (dats m 0 c).arrAt 6 cfg0.N = fun i => wanted m c (i 0) (i 1) := by
  refine (dats m 0 c).arrAt_eq_of_after_last 6 t0_0 (by decide +kernel) _ fun j => ?_
  blk_simp
  rw [after0_6]
  unfold outsAt0
  refine (result_apply c _ _ _ _ _ _ _ _ _ _ _ _ _ _ _ _ (iblk m c 0 t0_0) (iblk m c 1 t0_0) (iblk m c 2 t0_0) (iblk m c 3 t0_0)
    (iblk m c 4 t0_0) (iblk m c 5 t0_0) j).trans ?_
  refine answer_of_parts (fun b s => congrArg Ideal.tanh (Finset.sum_congr rfl fun k _ =>
      congrArg₂ (· * ·) (block_embedding m c (ix2 b k)) (block_input m c (ix2 k s))))
    (fun f s => block_cells m c f s) (fun e k => block_inward m c k e) (fun k f => block_outward m c f k)
    (fun f => block_output m c f) (j 0) (j 1)

end Cert.KernelIdeal.Field
-- ==== Proof.RefRows.lean ====
/-
  Whole rows read from and added into a matrix at one row number each: the two array operations by which the reference
  reaches its cell memory. Stated at any extents; nothing here names a program.
-/
module
public import proofs.«01_k».proof.Proof.Spec
public import Idealize.ShloMosaic.Lib.Routing.OpsPair

@[expose] public section

namespace Cert.Rows

open Idealize.ShloMosaic

/-- The dimension numbers of a read of `R` whole rows of an `N × C` matrix, one row number each. -/
abbrev readDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- A read whose row number is inside the matrix gives that row. -/
theorem read_row {α : Type} {N R C w : Nat}
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (f : Fin C) (q : Fin N)
    (h : (idx (ix2 r 0)).toInt = (q.val : Int)) :
    Host.gather (readDims N R C wf) x idx (ix2 r f) = x (ix2 q f) := by
  unfold Host.gather
  congr 1
  funext a
  refine Fin.ext ?_
  show (readDims N R C wf).start (ix2 r f) idx a + (readDims N R C wf).batchCoord (ix2 r f) a
      + (readDims N R C wf).offCoord (ix2 r f) a = _
  rw [GatherDims.batchCoord_eq_zero _ _ _ List.not_mem_nil, Nat.add_zero]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ (readDims N R C wf).startIndexMap from List.mem_singleton.mpr rfl)]
    have hsi : (readDims N R C wf).siIdx (ix2 r f) ⟨List.idxOf (0 : Fin 2) (readDims N R C wf).startIndexMap,
        List.idxOf_lt_length_iff.2 (List.mem_singleton.mpr rfl)⟩ = ix2 r 0 := by
      funext b; refine Fin.ext ?_
      match b with
      | ⟨0, _⟩ => rfl
      | ⟨1, _⟩ => rfl
    rw [hsi, h]
    show min q.val (N - 1) = q.val
    omega
  · unfold GatherDims.start
    rw [dif_neg (show (1 : Fin 2) ∉ (readDims N R C wf).startIndexMap from fun h => absurd (List.mem_singleton.mp h) Fin.zero_ne_one.symm), Nat.zero_add]
    rfl

/-- The dimension numbers of `R` whole rows added into an `N × C` matrix, one row number each. -/
abbrev addDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Entry `e` of added row `r` lands on entry `f` of row `q` exactly when row `r`'s number is `q` and the entries match. -/
theorem lands {N R C w : Nat} (wf : ScatterDims.WF ⟨2, ![N, C]⟩ ⟨2, ![R, 1]⟩ ⟨2, ![R, C]⟩ [1] [0] [0] 1)
    (idx : IVec ⟨2, ![R, 1]⟩ w) (r : Fin R) (e : Fin C) (q : Fin N) (f : Fin C) :
    (addDims N R C wf).resultIdx? (ix2 r e) idx = some (ix2 q f) ↔ (idx (ix2 r 0)).toInt = (q.val : Int) ∧ e = f := by
  have hs0 : (addDims N R C wf).start (ix2 r e) idx 0 = (idx (ix2 r 0)).toInt := by
    unfold ScatterDims.start
    rw [dif_pos (show (0 : Fin 2) ∈ (addDims N R C wf).scatterDimsToOperandDims from List.mem_singleton.mpr rfl)]
    have hsi : (addDims N R C wf).siIdx (ix2 r e) ⟨List.idxOf (0 : Fin 2) (addDims N R C wf).scatterDimsToOperandDims,
        List.idxOf_lt_length_iff.2 (List.mem_singleton.mpr rfl)⟩ = ix2 r 0 := by
      funext b; refine Fin.ext ?_
      match b with
      | ⟨0, _⟩ => rfl
      | ⟨1, _⟩ => rfl
    rw [hsi]
  have hs1 : (addDims N R C wf).start (ix2 r e) idx 1 = 0 := by
    unfold ScatterDims.start
    exact dif_neg (show (1 : Fin 2) ∉ (addDims N R C wf).scatterDimsToOperandDims from fun h => absurd (List.mem_singleton.mp h) Fin.zero_ne_one.symm)
  have hw0 : (addDims N R C wf).window (ix2 r e) 0 = 0 := rfl
  have hw1 : (addDims N R C wf).window (ix2 r e) 1 = e.val := rfl
  refine (Routing.resultIdx?_eq_some (addDims N R C wf) (ix2 r e) idx (ix2 q f)).trans ?_
  constructor
  · intro h
    have a : (idx (ix2 r 0)).toInt + ((0 : ℕ) : Int) = (q.val : Int) := (congrArg₂ (fun (z : Int) (n : ℕ) => z + (n : Int)) hs0.symm hw0.symm).trans (h 0)
    have b : (0 : Int) + (e.val : Int) = (f.val : Int) := (congrArg₂ (fun (z : Int) (n : ℕ) => z + (n : Int)) hs1.symm hw1.symm).trans (h 1)
    exact ⟨by omega, Fin.ext (by omega)⟩
  · rintro ⟨a, rfl⟩ i
    match i with
    | ⟨0, _⟩ => exact (congrArg₂ (fun (z : Int) (n : ℕ) => z + (n : Int)) (hs0.trans a) hw0).trans (by simp)
    | ⟨1, _⟩ => exact (congrArg₂ (fun (z : Int) (n : ℕ) => z + (n : Int)) hs1 hw1).trans (by simp)

/-- Rows added into a matrix: an entry gains that entry of every added row whose number is the entry's row. -/
theorem add_rows {N R C w : Nat} (wf : ScatterDims.WF ⟨2, ![N, C]⟩ ⟨2, ![R, 1]⟩ ⟨2, ![R, C]⟩ [1] [0] [0] 1)
    (x : FVec Ideal ⟨2, ![N, C]⟩ .f32) (idx : IVec ⟨2, ![R, 1]⟩ w) (u : FVec Ideal ⟨2, ![R, C]⟩ .f32) (q : Fin N) (f : Fin C) :
    Host.scatterAdd (F := Ideal) (addDims N R C wf) x idx u (ix2 q f)
      = (x (ix2 q f) + ∑ r : Fin R, if (idx (ix2 r 0)).toInt = (q.val : Int) then u (ix2 r f) else 0 : EReal) := by
  show (x (ix2 q f) + ∑ j ∈ Finset.univ.filter (fun j => (addDims N R C wf).resultIdx? j idx = some (ix2 q f)), u j : EReal) = _
  congr 1
  rw [Finset.sum_filter, sum_idx2]
  refine Finset.sum_congr rfl fun r _ => ?_
  simp only [lands]
  by_cases h : (idx (ix2 r 0)).toInt = (q.val : Int)
  · simp [h]
  · simp [h]

end Cert.Rows

namespace Cert.Field

open Idealize.ShloMosaic

/-- The rows at a cell, found by going through every row, are the cell's rows in the grids in turn. -/
theorem sum_at_cell (g : Fin 32768 → EReal) (s : Fin 1024) :
    (∑ r : Fin 32768, if r.val % 1024 = s.val then g r else 0) = ∑ b : Fin 32, g (row b s) := by
  let e : Fin 32 × Fin 1024 ≃ Fin 32768 :=
    { toFun := fun p => row p.1 p.2, invFun := fun r => (grid r, cell r),
      left_inv := fun p => Prod.ext (grid_row p.1 p.2) (cell_row p.1 p.2),
      right_inv := fun r => Fin.ext (Nat.div_add_mod' r.val 1024) }
  rw [← e.sum_comp, Fintype.sum_prod_type]
  refine Finset.sum_congr rfl fun b _ => ?_
  have h : ∀ t : Fin 1024, (if (e (b, t)).val % 1024 = s.val then g (e (b, t)) else 0) = if t = s then g (row b t) else 0 := fun t => by
    have h1 : (e (b, t)).val % 1024 = t.val := congrArg Fin.val (cell_row b t)
    rw [h1]
    exact if_congr Fin.ext_iff.symm rfl rfl
  rw [Finset.sum_congr rfl fun t _ => h t, Finset.sum_ite_eq' Finset.univ s fun t => g (row b t), if_pos (Finset.mem_univ s)]

end Cert.Field
-- ==== Proof.RefStep.lean ====
/-
  One trip of the reference's loop, read at an index.
-/
module
public import proofs.«01_k».proof.Proof.RefRows
public import proofs.«01_k».proof.Proof.Gen.ReferenceIdeal.Run
public import Idealize.ShloMosaic.Lib.ReduceAll
public import Idealize.ShloMosaic.Lib.WordCmp
public import Idealize.ShloMosaic.Lib.Routing.OpsPair

@[expose] public section
set_option maxRecDepth 16384

namespace Cert.ReferenceIdeal.Field

open Cert.ReferenceIdeal Cert.ReferenceIdeal.Gen Cert.ReferenceIdeal.Value Idealize.ShloMosaic Idealize.ShloMosaic.TcCoe
open Idealize.ShloMosaic.StableHlo
open Cert.Field

variable (V : Valuation τ sig (Elt Ideal))

/-- The weights into the hidden layer. -/
noncomputable abbrev inward : Fin 64 → Fin 256 → EReal := fun e k => (show FVec Ideal S64x256 .f32 from V (Proc.devRef .tc main_v23_0)) (ix2 e k)

/-- The weights out of the hidden layer. -/
noncomputable abbrev outward : Fin 256 → Fin 64 → EReal := fun k f => (show FVec Ideal S256x64 .f32 from V (Proc.devRef .tc main_v23_1)) (ix2 k f)

/-- The field the trip starts from. -/
noncomputable abbrev flow : Fin 64 → Fin 32768 → EReal := fun f r => (show FVec Ideal S32768x64 .f32 from V (Proc.devRef .tc main_v23_5)) (ix2 r f)

/-- The cell memory the trip starts from. -/
noncomputable abbrev memory : Fin 64 → Fin 16384 → EReal := fun f q => (show FVec Ideal S16384x64 .f32 from V (Proc.devRef .tc main_v23_6)) (ix2 q f)

/-- The cell numbers. -/
noncomputable abbrev cells : IVec S32768 32 := V (Proc.devRef .tc main_v23_2)

/-- The trip's number. -/
noncomputable abbrev counter : IVec S_ 32 := V (Proc.devRef .tc main_v23_4)

/-- The hidden layer before its nonlinearity. -/
theorem hidden_apply (r : Fin 32768) (k : Fin 256) :
    (show FVec Ideal S32768x256 .f32 from res_main_while0b_v27 V) (ix2 r k) = ∑ e : Fin 64, inward V e k * flow V e r := by
  unfold res_main_while0b_v27
  pointwise
  exact Finset.sum_congr rfl fun e _ => mul_comm _ _

/-- The nonlinearity as the reference spells it. -/
theorem gelu_spelt (h : EReal) :
    h * (Ideal.ofBits .f32 0x3F000000#32 *
      (1 + Ideal.tanh (Ideal.ofBits .f32 0x3F4C422A#32 * (h + Ideal.ofBits .f32 0x3D372713#32 * (h * h * h))))) = gelu h := by
  unfold gelu
  rw [mul_assoc h h h]

/-- The updated rows: each is its row's residual update. -/
theorem updated_apply (r : Fin 32768) (f : Fin 64) :
    (show FVec Ideal S32768x64 .f32 from res_main_while0b_v42 V) (ix2 r f)
      = residual (inward V) (outward V) (fun e => flow V e r) f := by
  unfold res_main_while0b_v42
  pointwise
  refine congrArg₂ (fun a b : EReal => a + b) rfl (Finset.sum_congr rfl fun k _ => ?_)
  refine (mul_comm (G := EReal) _ _).trans (congrArg (fun z : EReal => outward V k f * z) ?_)
  exact (gelu_spelt _).trans (congrArg gelu (hidden_apply V r k))

/-- Bits that are all `1` meet in `1`. -/
theorem fold_one {ι : Type} (s : Finset ι) (g : ι → BitVec 1) (h : ∀ x, g x = 1#1) : Finset.fold IntOp.andi 1#1 g s = 1#1 := by
  classical
  induction s using Finset.induction_on with
  | empty => rfl
  | insert a s ha ih => rw [Finset.fold_insert ha, ih, h a]; rfl

/-- A column of words none of which is outside `0 … b` passes the reference's test of its row numbers. -/
theorem inside_one (col : IVec S32768x1 32) (b : ℕ) (hb : b < 2 ^ 31) (n : Fin 32768 → ℕ) (hn : ∀ r, n r ≤ b)
    (hc : ∀ r, col (ix2 r 0) = BitVec.ofNat 32 (n r)) (i : S32768x1.Idx) :
    IntOp.andi (IntOp.cmpi .sge (col i) 0#32) (IntOp.cmpi .sle (col i) (BitVec.ofNat 32 b)) = 1#1 := by
  obtain ⟨r, rfl⟩ : ∃ r : Fin 32768, i = ix2 r 0 := by
    refine ⟨i 0, funext fun a => ?_⟩
    match a with
    | ⟨0, _⟩ => rfl
    | ⟨1, _⟩ => exact Subsingleton.elim (α := Fin 1) _ _
  have := hn r
  rw [hc, WordCmp.cmpi_sge_ofNat (by omega) (by decide), WordCmp.cmpi_sle_ofNat (by omega) hb,
    decide_eq_true (Nat.zero_le _), decide_eq_true (hn r)]
  rfl

/-- The row of the cell memory at which a trip finds a cell. -/
def slot (k : ℕ) (hk : k < 16) (s : Fin 1024) : Fin 16384 := ⟨k * 1024 + s.val, by omega⟩

section Column

variable {V} {k : ℕ} (hk : k < 16)
  (hcell : ∀ r : Fin 32768, cells V (ix1 r) = BitVec.ofNat 32 (r.val % 1024)) (hstep : counter V = fun _ => BitVec.ofNat 32 k)
include hk hcell hstep

omit hk in
/-- The row numbers before any wrapping. -/
theorem number_apply (r : Fin 32768) :
    res_main_while0b_v46 V (ix1 r) = BitVec.ofNat 32 (r.val % 1024 + k * 1024) := by
  unfold res_main_while0b_v46
  pointwise
  refine (congrArg₂ IntOp.addi (hcell r) (congrArg (fun x : BitVec 32 => IntOp.muli x 1024#32) (congrFun hstep ix0))).trans ?_
  rw [WordCmp.muli_ofNat, WordCmp.addi_ofNat]

/-- The row numbers: none is negative, so none wraps. -/
theorem column_apply (r : Fin 32768) :
    res_main_while0b_v59 V (ix2 r 0) = BitVec.ofNat 32 (r.val % 1024 + k * 1024) := by
  unfold res_main_while0b_v59
  pointwise
  rw [number_apply hcell hstep r]
  refine Routing.wrap_of_lt _ _ ?_
  rw [WordCmp.toNat_ofNat_of_lt (by omega)]
  omega

/-- The row numbers, read as integers. -/
theorem column_toInt (r : Fin 32768) : (res_main_while0b_v59 V (ix2 r 0)).toInt = ((r.val % 1024 + k * 1024 : ℕ) : Int) := by
  rw [column_apply hk hcell hstep r, WordCmp.toInt_ofNat_of_lt (by omega)]

/-- The cell memory after the trip: every row gains the updated rows numbered by it. -/
theorem memory_add (q : Fin 16384) (f : Fin 64) :
    (show FVec Ideal S16384x64 .f32 from res_main_while0b_v53 V) (ix2 q f) = memory V f q
      + ∑ r : Fin 32768, if r.val % 1024 + k * 1024 = q.val then residual (inward V) (outward V) (fun e => flow V e r) f else 0 := by
  refine (Cert.Rows.add_rows scatter_S16384x64_S32768x1_S32768x64_1_0_0_1.wf (V (Proc.devRef .tc main_v23_6)) (res_main_while0b_v59 V)
    (res_main_while0b_v42 V) q f).trans ?_
  refine congrArg₂ (fun a b : EReal => a + b) rfl (Finset.sum_congr rfl fun r _ => ?_)
  rw [column_toInt hk hcell hstep r]
  exact if_congr Int.natCast_inj (updated_apply V r f) rfl

/-- A cell's row of the memory, nothing there before, holds the cell's total after the trip. -/
theorem memory_slot (hz : ∀ (f : Fin 64) (q : Fin 16384), k * 1024 ≤ q.val → memory V f q = 0) (s : Fin 1024) (f : Fin 64) :
    (show FVec Ideal S16384x64 .f32 from res_main_while0b_v53 V) (ix2 (slot k hk s) f)
      = total (fun f r => residual (inward V) (outward V) (fun e => flow V e r) f) f s := by
  rw [memory_add hk hcell hstep, hz f _ (Nat.le_add_right _ _), zero_add]
  refine (Finset.sum_congr rfl fun r _ => if_congr (?_ : _ ↔ r.val % 1024 = s.val) rfl rfl).trans (sum_at_cell _ s)
  show r.val % 1024 + k * 1024 = k * 1024 + s.val ↔ _
  omega

/-- The rows above this trip's stay as they were. -/
theorem memory_above (q : Fin 16384) (f : Fin 64) (hq : (k + 1) * 1024 ≤ q.val) :
    (show FVec Ideal S16384x64 .f32 from res_main_while0b_v53 V) (ix2 q f) = memory V f q := by
  rw [memory_add hk hcell hstep, Finset.sum_eq_zero fun r _ => if_neg (by omega), add_zero]

/-- The field after the trip. -/
theorem flow_after (hz : ∀ (f : Fin 64) (q : Fin 16384), k * 1024 ≤ q.val → memory V f q = 0) (r : Fin 32768) (f : Fin 64) :
    (show FVec Ideal S32768x64 .f32 from step_main_v23_5 V) (ix2 r f)
      = blended (fun f r => residual (inward V) (outward V) (fun e => flow V e r) f)
        (total fun f r => residual (inward V) (outward V) (fun e => flow V e r) f) f r := by
  unfold step_main_v23_5
  rw [id]
  pointwise
  have hq : (res_main_while0b_v59 V (ix2 r 0)).toInt = ((slot k hk (cell r)).val : Int) := by
    rw [column_toInt hk hcell hstep r]
    exact congrArg _ (Nat.add_comm _ _)
  have inside := inside_one (res_main_while0b_v59 V) 16383 (by norm_num) (fun r => r.val % 1024 + k * 1024)
    (fun r => show r.val % 1024 + k * 1024 ≤ 16383 by omega) (column_apply hk hcell hstep)
  have hg := (Cert.Rows.read_row gather_S16384x64_S32768x1_S32768x64_1_0_n_n_0_1_164.wf
    (show FVec Ideal S16384x64 .f32 from res_main_while0b_v53 V) (res_main_while0b_v59 V) r f _ hq).trans
    (memory_slot hk hcell hstep hz (cell r) f)
  exact congrArg₂ (fun a b : EReal => a + blend * b) (updated_apply V r f) ((WordCmp.select_of_eq_one (fold_one _ _ inside) _ _).trans hg)

end Column

end Cert.ReferenceIdeal.Field
-- ==== Proof.RefStart.lean ====
/-
  What the reference's loop starts from.
-/
module
public import proofs.«01_k».proof.Proof.RefStep

@[expose] public section
set_option maxRecDepth 16384

namespace Cert.ReferenceIdeal.Field

open Cert.ReferenceIdeal Cert.ReferenceIdeal.Gen Cert.ReferenceIdeal.Value Idealize.ShloMosaic Idealize.ShloMosaic.TcCoe
open Idealize.ShloMosaic.StableHlo Idealize.ShloMosaic.Tactic
open Cert.Field

variable (m : (ℓ : Loc nD τ sig) → Buf (Elt Ideal) ℓ) (c : Dev nD)

/-- The loop's contents before its first trip. -/
noncomputable abbrev entry : Valuation τ sig (Elt Ideal) := entryContents preI m c

/-- The embedding. -/
noncomputable abbrev argEmbedding : Fin 32 → Fin 768 → EReal := fun b k => m ((c.tc : Thread nD τ).loc main_arg0) (ix2 b k)

/-- The input weights. -/
noncomputable abbrev argInput : Fin 768 → Fin 1024 → EReal := fun k s => m ((c.tc : Thread nD τ).loc main_arg1) (ix2 k s)

/-- The cells' vectors. -/
noncomputable abbrev argCells : Fin 1024 → Fin 64 → EReal := fun s f => m ((c.tc : Thread nD τ).loc main_arg2) (ix2 s f)

/-- The weights into the hidden layer. -/
noncomputable abbrev argInward : Fin 64 → Fin 256 → EReal := fun e k => m ((c.tc : Thread nD τ).loc main_arg3) (ix2 e k)

/-- The weights out of the hidden layer. -/
noncomputable abbrev argOutward : Fin 256 → Fin 64 → EReal := fun k f => m ((c.tc : Thread nD τ).loc main_arg4) (ix2 k f)

/-- The output vector. -/
noncomputable abbrev argOutput : Fin 64 → EReal := fun f => m ((c.tc : Thread nD τ).loc main_arg5) (ix1 f)

/-- The field the arguments start the computation from. -/
noncomputable abbrev first : Fin 64 → Fin 32768 → EReal :=
  start (fun b s => Ideal.tanh (∑ k : Fin 768, argEmbedding m c b k * argInput m c k s)) (fun f s => argCells m c s f)

/-- The cell numbers are the argument's. -/
theorem entry_cells : cells (entry m c) = m ((c.tc : Thread nD τ).loc main_arg6) := by
  simp only [entryContents, afterL_cons, afterL_nil]
  after_reads_simp
  rfl

/-- The trips are counted from zero. -/
theorem entry_counter : counter (entry m c) = fun _ => 0#32 := by
  simp only [entryContents, afterL_cons, afterL_nil]
  after_reads_simp
  rfl

/-- The weights into the hidden layer are the argument's. -/
theorem entry_inward : inward (entry m c) = argInward m c := by
  funext a b
  simp only [inward, entryContents, afterL_cons, afterL_nil]
  after_reads_simp
  rfl

/-- The weights out of the hidden layer are the argument's. -/
theorem entry_outward : outward (entry m c) = argOutward m c := by
  funext a b
  simp only [outward, entryContents, afterL_cons, afterL_nil]
  after_reads_simp
  rfl

/-- The cell memory is empty. -/
theorem entry_memory (f : Fin 64) (q : Fin 16384) : memory (entry m c) f q = 0 := by
  simp only [memory, entryContents, afterL_cons, afterL_nil]
  after_reads_simp
  rw [id]
  pointwise

/-- The first field from its parts, the row numbers given as a column: the cell's embedded value, through `tanh`, times
    the cell's vector. -/
theorem start_apply (a0 : FVec Ideal S32x768 .f32) (a1 : FVec Ideal S768x1024 .f32) (a2 : FVec Ideal S1024x64 .f32)
    (col : IVec S32768x1 32) (hcol : ∀ r : Fin 32768, col (ix2 r 0) = BitVec.ofNat 32 (r.val % 1024)) (r : Fin 32768) (f : Fin 64) :
    (mulf (broadcastInDim S32768x64 ![0, 1] bcast_S32768x1_S32768x64_0_1 (shapeCast S32768x1
        (Host.tanh (Host.dotGeneral (F := Ideal) dot_S32x768_S768x1024_S32x1024_1_0_0_1_n_n none a0 a1)) shapeCasts_S32x1024_S32768x1))
      (select (broadcastInDim S32768x64 ![0] bcast_S32768_S32768x64_0 (Host.reduce IntOp.andi
          (andi (cmpi .sge col (broadcastInDim S32768x1 ![] bcast_S_S32768x1 (constantI S_ 32 0#32)))
            (cmpi .sle col (broadcastInDim S32768x1 ![0, 1] bcast_S1x1_S32768x1_0_1
              (broadcastInDim S1x1 ![1] bcast_S1_S1x1_1 (constantI S1 32 1023#32)))))
          (constantI S_ 1 1#1) reducesTo_S32768x1_S32768_d1 h_S_))
        (Host.gather gather_S1024x64_S32768x1_S32768x64_1_0_n_n_0_1_164 a2 col)
        (broadcastInDim S32768x64 ![] bcast_S_S32768x64 (constant (F := Ideal) S_ .f32 0x7FC00000#32))) : FVec Ideal S32768x64 .f32) (ix2 r f)
      = start (fun b s => Ideal.tanh (∑ k : Fin 768, a0 (ix2 b k) * a1 (ix2 k s))) (fun f s => a2 (ix2 s f)) f r := by
  have inside := inside_one col 1023 (by norm_num) (fun r => r.val % 1024) (fun r => show r.val % 1024 ≤ 1023 by omega) hcol
  have hq : (col (ix2 r 0)).toInt = ((cell r).val : Int) := by
    rw [hcol, WordCmp.toInt_ofNat_of_lt (by omega)]
    rfl
  have hg := Cert.Rows.read_row gather_S1024x64_S32768x1_S32768x64_1_0_n_n_0_1_164.wf a2 col r f _ hq
  pointwise
  exact congrArg₂ (fun a b : EReal => a * b) rfl ((WordCmp.select_of_eq_one (fold_one _ _ fun x => inside (ix2 r x)) _ _).trans hg)

/-- The row numbers the first field is read by: none is negative, so none wraps. -/
theorem column_start (a6 : IVec S32768 32) (h6 : ∀ r : Fin 32768, a6 (ix1 r) = BitVec.ofNat 32 (r.val % 1024)) (r : Fin 32768) :
    (broadcastInDim S32768x1 ![0] bcast_S32768_S32768x1_0
      (select (cmpi .slt a6 (broadcastInDim S32768 ![] bcast_S_S32768 (constantI S_ 32 0#32)))
        (addi a6 (broadcastInDim S32768 ![] bcast_S_S32768 (constantI S_ 32 1024#32))) a6)) (ix2 r 0) = BitVec.ofNat 32 (r.val % 1024) := by
  pointwise
  rw [h6 r]
  refine Routing.wrap_of_lt _ _ ?_
  rw [WordCmp.toNat_ofNat_of_lt (by omega)]
  omega

/-- The first field is the computation's. -/
theorem entry_flow (h6 : ∀ r : Fin 32768, m ((c.tc : Thread nD τ).loc main_arg6) (ix1 r) = BitVec.ofNat 32 (r.val % 1024))
    (f : Fin 64) (r : Fin 32768) : flow (entry m c) f r = first m c f r := by
  simp only [flow, entryContents, afterL_cons, afterL_nil]
  after_reads_simp
  exact start_apply _ _ _ _ (column_start _ h6) r f

end Cert.ReferenceIdeal.Field
-- ==== Proof.RefValue.lean ====
/-
  What the reference's sixteen trips leave, and the result read off them.
-/
module
public import proofs.«01_k».proof.Proof.RefStart

@[expose] public section
set_option maxRecDepth 16384

namespace Cert.ReferenceIdeal.Field

open Cert.ReferenceIdeal Cert.ReferenceIdeal.Gen Cert.ReferenceIdeal.Value Idealize.ShloMosaic Idealize.ShloMosaic.TcCoe
open Idealize.ShloMosaic.StableHlo
open Cert.Field

variable (m : (ℓ : Loc nD τ sig) → Buf (Elt Ideal) ℓ) (c : Dev nD)

/-- What holds of the contents `V` before trip `k`: the weights and the cell numbers as given, the trips counted, the
    field `k` steps on, and the cell memory empty from this trip's rows up. -/
structure Before (k : ℕ) (V : Valuation τ sig (Elt Ideal)) : Prop where
  inward_eq : inward V = argInward m c
  outward_eq : outward V = argOutward m c
  cells_eq : ∀ r : Fin 32768, cells V (ix1 r) = BitVec.ofNat 32 (r.val % 1024)
  counter_eq : counter V = fun _ => BitVec.ofNat 32 k
  flow_eq : ∀ (f : Fin 64) (r : Fin 32768), flow V f r = field (argInward m c) (argOutward m c) (first m c) k f r
  memory_eq : ∀ (f : Fin 64) (q : Fin 16384), k * 1024 ≤ q.val → memory V f q = 0

/-- It holds before the first trip. -/
theorem before_first (h6 : ∀ r : Fin 32768, m ((c.tc : Thread nD τ).loc main_arg6) (ix1 r) = BitVec.ofNat 32 (r.val % 1024)) :
    Before m c 0 (entry m c) where
  inward_eq := entry_inward m c
  outward_eq := entry_outward m c
  cells_eq r := (congrFun (entry_cells m c) (ix1 r)).trans (h6 r)
  counter_eq := entry_counter m c
  flow_eq f r := entry_flow m c h6 f r
  memory_eq f q _ := entry_memory m c f q

/-- One trip carries it to the next. -/
theorem before_next {k : ℕ} (hk : k < 16) {V : Valuation τ sig (Elt Ideal)} (h : Before m c k V) : Before m c (k + 1) (STEP V) where
  inward_eq := (congrArg (fun x : FVec Ideal S64x256 .f32 => fun (a : Fin 64) (b : Fin 256) => x (ix2 a b)) (STEP_main_v23_0 V)).trans h.inward_eq
  outward_eq := (congrArg (fun x : FVec Ideal S256x64 .f32 => fun (a : Fin 256) (b : Fin 64) => x (ix2 a b)) (STEP_main_v23_1 V)).trans h.outward_eq
  cells_eq r := (congrFun (STEP_main_v23_2 V) (ix1 r)).trans (h.cells_eq r)
  counter_eq := by
    refine (STEP_main_v23_4 V).trans (funext fun i => ?_)
    refine (congrArg (fun x : BitVec 32 => IntOp.addi x (BitVec.ofNat 32 1)) (congrFun h.counter_eq i)).trans ?_
    exact WordCmp.addi_ofNat _ _
  flow_eq f r := by
    refine ((congrFun (STEP_main_v23_5 V) (ix2 r f)).trans (flow_after hk h.cells_eq h.counter_eq h.memory_eq r f)).trans ?_
    have e : (flow V) = field (argInward m c) (argOutward m c) (first m c) k := funext fun f => funext fun r => h.flow_eq f r
    rw [e, h.inward_eq, h.outward_eq]
    rfl
  memory_eq f q hq := by
    refine ((congrFun (STEP_main_v23_6 V) (ix2 q f)).trans (memory_above hk h.cells_eq h.counter_eq q f hq)).trans ?_
    exact h.memory_eq f q (by omega)

/-- It holds after any number of trips up to sixteen. -/
theorem before_all (h6 : ∀ r : Fin 32768, m ((c.tc : Thread nD τ).loc main_arg6) (ix1 r) = BitVec.ofNat 32 (r.val % 1024)) :
    ∀ k : ℕ, k ≤ 16 → Before m c k (STEP^[k] (entry m c))
  | 0, _ => before_first m c h6
  | k + 1, hk => by
    rw [Function.iterate_succ_apply']
    exact before_next m c hk (before_all h6 k (Nat.le_of_succ_le hk))

/-- The reference's result is the answer its arguments give. -/
theorem final (h6 : ∀ r : Fin 32768, m ((c.tc : Thread nD τ).loc main_arg6) (ix1 r) = BitVec.ofNat 32 (r.val % 1024)) :
    out_main_v25 (STEP^[16] (entry m c)) = fun i => answer (argEmbedding m c) (argInput m c) (argCells m c) (argInward m c)
      (argOutward m c) (argOutput m c) (i 0) (i 1) := by
  have h := before_all m c h6 16 le_rfl
  have h5 := iter_main_arg5 m c 16
  funext i
  obtain ⟨b, s, rfl⟩ : ∃ (b : Fin 32) (s : Fin 1024), i = ix2 b s := ⟨i 0, i 1, eq_ix2 i⟩
  unfold out_main_v25
  rw [h5]
  pointwise
  unfold answer projected
  refine Finset.sum_congr (M := EReal) rfl fun f _ => ?_
  exact (mul_comm (G := EReal) _ _).trans (congrArg (fun z : EReal => argOutput m c f * z) (h.flow_eq f (row b s)))

end Cert.ReferenceIdeal.Field
-- ==== Proof.RefPre.lean ====
/-
  What the precondition says of the cell numbers: row `r` stands at cell `r` modulo 1024.
-/
module
public import proofs.«01_k».proof.Proof.Gen.Pre_tiled_cells
public import Idealize.ShloMosaic.Lib.Pointwise
public import Idealize.ShloMosaic.Lib.ReduceAll
public import Idealize.ShloMosaic.Lib.WordCmp

@[expose] public section
set_option maxRecDepth 16384

namespace Cert.Pre_tiled_cells.Field

open Cert.Pre_tiled_cells Cert.Pre_tiled_cells.Gen Idealize.ShloMosaic

/-- The remainder of a row number by 1024 as the precondition spells it. -/
theorem remainder_apply (r : Fin 32768) :
    fn_remainder (F := Ideal) (iotaInDim S32768 32 0) (constantI S_ 32 1024#32) (ix1 r) = BitVec.ofNat 32 (r.val % 1024) := by
  unfold fn_remainder fn_where
  pointwise
  have d : Scalar.select (IntOp.cmpi .eq (id (constantI S_ 32 1024#32) ix0) 0#32) (1#32) (id (constantI S_ 32 1024#32) ix0) = 1024#32 := rfl
  have e : IntOp.remsi ArithUnit.host (BitVec.ofNat 32 r.val) 1024#32 = BitVec.ofNat 32 (r.val % 1024) := by
    have h1 : (BitVec.ofNat 32 r.val).toNat = r.val := WordCmp.toNat_ofNat_of_lt (by omega)
    refine BitVec.eq_of_toNat_eq ((IntOp.toNat_remsi .host (by rw [h1]; omega) 1024 (by norm_num) (by norm_num)).trans ?_)
    rw [h1, WordCmp.toNat_ofNat_of_lt (by omega)]
  have n : IntOp.cmpi .slt (BitVec.ofNat 32 (r.val % 1024)) 0#32 = 0#1 := by
    rw [WordCmp.cmpi_slt_zero, WordCmp.toNat_ofNat_of_lt (by omega), decide_eq_false (by omega)]
    rfl
  have p : IntOp.cmpi .slt 1024#32 0#32 = 0#1 := rfl
  rw [d, e, n, p]
  exact WordCmp.select_of_eq_zero (BitVec.zero_and (x := _)) _ _

/-- The cell numbers that satisfy the precondition. -/
theorem cells_of_pre {a0 : FVec Ideal S32x768 .f32} {a1 : FVec Ideal S768x1024 .f32} {a2 : FVec Ideal S1024x64 .f32}
    {a3 : FVec Ideal S64x256 .f32} {a4 : FVec Ideal S256x64 .f32} {a5 : FVec Ideal S64 .f32} {a6 : IVec S32768 32}
    (h : Cert.Pre_tiled_cells.fn (F := Ideal) a0 a1 a2 a3 a4 a5 a6 = fun _ => 1#1) (r : Fin 32768) :
    a6 (ix1 r) = BitVec.ofNat 32 (r.val % 1024) := by
  have : Subsingleton S_.Idx := ⟨fun a b => funext fun i => i.elim0⟩
  exact (IntOp.cmpi_eq.1 (Host.reduce_andi_all _ _ _ _ ix0 (congrFun h ix0) (ix1 r))).trans (remainder_apply r)

end Cert.Pre_tiled_cells.Field
-- ==== Proof.Equal.lean ====
/-
  The equation: run from the same arguments, on tiled cell numbers, the kernel and the reference leave the same result.
-/
module

public import proofs.«01_k».proof.Defs
public import proofs.«01_k».proof.Proof.KernelValue
public import proofs.«01_k».proof.Proof.RefValue
public import proofs.«01_k».proof.Proof.RefPre

@[expose] public section

noncomputable section

namespace Cert.Proof

open Idealize.ShloMosaic Idealize.ShloMosaic.TcCoe Idealize.SL.Sem

/-- Both programs leave the answer of `Cert.Field.answer` at their common arguments. -/
theorem equal : Cert.algebraic_KernelIdeal_ReferenceIdeal_pre_tiled_cells := by
  intro m g m' g' hpre hargs
  refine ⟨fun c => fun i => Cert.KernelIdeal.Field.wanted m c (i 0) (i 1),
    (θ_run Cert.KernelIdeal.defs _ _).mono (fun r h c => ⟨(h c).1.trans (Cert.KernelIdeal.Field.final m c), (h c).2⟩)
      (Cert.KernelIdeal.Value.run_blocks m g),
    (θ_run Cert.ReferenceIdeal.defs _ _).mono (fun r h c => ⟨(h c).1.trans ?_, (h c).2⟩)
      (Cert.ReferenceIdeal.Value.run (F := Ideal) m' g')⟩
  obtain ⟨e0, e1, e2, e3, e4, e5, e6⟩ := hargs c
  refine (Cert.ReferenceIdeal.Field.final m' c fun r =>
    (congrFun e6 (ix1 r)).trans (Cert.Pre_tiled_cells.Field.cells_of_pre (hpre c) r)).trans ?_
  have q0 : Cert.ReferenceIdeal.Field.argEmbedding m' c = fun b k => m ((c.tc : Thread Cert.KernelIdeal.nD Cert.KernelIdeal.τ).loc
      Cert.KernelIdeal.main_arg0) (ix2 b k) := funext fun b => funext fun k => congrFun e0 (ix2 b k)
  have q1 : Cert.ReferenceIdeal.Field.argInput m' c = fun k s => m ((c.tc : Thread Cert.KernelIdeal.nD Cert.KernelIdeal.τ).loc
      Cert.KernelIdeal.main_arg1) (ix2 k s) := funext fun k => funext fun s => congrFun e1 (ix2 k s)
  have q2 : Cert.ReferenceIdeal.Field.argCells m' c = fun s f => m ((c.tc : Thread Cert.KernelIdeal.nD Cert.KernelIdeal.τ).loc
      Cert.KernelIdeal.main_arg2) (ix2 s f) := funext fun s => funext fun f => congrFun e2 (ix2 s f)
  have q3 : Cert.ReferenceIdeal.Field.argInward m' c = fun e k => m ((c.tc : Thread Cert.KernelIdeal.nD Cert.KernelIdeal.τ).loc
      Cert.KernelIdeal.main_arg3) (ix2 e k) := funext fun e => funext fun k => congrFun e3 (ix2 e k)
  have q4 : Cert.ReferenceIdeal.Field.argOutward m' c = fun k f => m ((c.tc : Thread Cert.KernelIdeal.nD Cert.KernelIdeal.τ).loc
      Cert.KernelIdeal.main_arg4) (ix2 k f) := funext fun k => funext fun f => congrFun e4 (ix2 k f)
  have q5 : Cert.ReferenceIdeal.Field.argOutput m' c = fun f => m ((c.tc : Thread Cert.KernelIdeal.nD Cert.KernelIdeal.τ).loc
      Cert.KernelIdeal.main_arg5) (ix1 f) := funext fun f => congrFun e5 (ix1 f)
  rw [q0, q1, q2, q3, q4, q5]
  rfl

end Cert.Proof

end
-- ==== Proof.lean ====
/-
  The certificate: the frames, the idealization, and the equation of the kernel with the reference.
-/
module

public import proofs.«01_k».proof.Defs
public import proofs.«01_k».proof.Proof.Frames
public import proofs.«01_k».proof.Proof.Equal

@[expose] public section

namespace Cert.Proof

/-- Everything claimed: the programs' side conditions, then the five frames, the idealization (no rule was applied, so
    nothing is asked) and the equation. -/
theorem claim : Cert.Claim :=
  ⟨Cert.Kernel.Gen.facts, Cert.KernelIdeal.Gen.facts, Cert.ReferenceIdeal.Gen.facts, Cert.Pre_tiled_cells.Gen.facts,
    frame_kernel, frame_kernelIdeal, frame_kernelIdeal_tiled, frame_referenceIdeal, frame_referenceIdeal_tiled, trivial,
    equal⟩

end Cert.Proof
